-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_tau" .f32 0x41200000#32 ((134217728 / 13421773 : ℝ) : EReal)

def algebraic_KernelIdeal_ReferenceIdeal_on_selected [hKernelIdeal : Cert.KernelIdeal.Facts] [hReferenceIdeal : Cert.ReferenceIdeal.Facts] [hOn_selected : Cert.On_selected.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v199)) (v1 : (c : Dev Cert.KernelIdeal.nD) → Buf (Elt Ideal) ((c.tc : Thread Cert.KernelIdeal.nD Cert.KernelIdeal.τ).loc Cert.KernelIdeal.main_v200)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![32, 8192, 64]⟩ : Shape).Idx, (Cert.On_selected.fn (F := Ideal) (m ((c.tc : Thread Cert.KernelIdeal.nD Cert.KernelIdeal.τ).loc Cert.KernelIdeal.main_arg0))).1 i = 1#1 → r.2.mem ((c.tc : Thread Cert.KernelIdeal.nD Cert.KernelIdeal.τ).loc Cert.KernelIdeal.main_v199) i = v0 c i)
          ∧ (∀ i : (⟨2, ![262144, 64]⟩ : Shape).Idx, (Cert.On_selected.fn (F := Ideal) (m ((c.tc : Thread Cert.KernelIdeal.nD Cert.KernelIdeal.τ).loc Cert.KernelIdeal.main_arg0))).2 i = 1#1 → r.2.mem ((c.tc : Thread Cert.KernelIdeal.nD Cert.KernelIdeal.τ).loc Cert.KernelIdeal.main_v200) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![32, 8192, 64]⟩ : Shape).Idx, (Cert.On_selected.fn (F := Ideal) (m ((c.tc : Thread Cert.KernelIdeal.nD Cert.KernelIdeal.τ).loc Cert.KernelIdeal.main_arg0))).1 i = 1#1 → r.2.mem ((c.tc : Thread Cert.ReferenceIdeal.nD Cert.ReferenceIdeal.τ).loc Cert.ReferenceIdeal.main_v73) i = v0 c i)
          ∧ (∀ i : (⟨2, ![262144, 64]⟩ : Shape).Idx, (Cert.On_selected.fn (F := Ideal) (m ((c.tc : Thread Cert.KernelIdeal.nD Cert.KernelIdeal.τ).loc Cert.KernelIdeal.main_arg0))).2 i = 1#1 → r.2.mem ((c.tc : Thread Cert.ReferenceIdeal.nD Cert.ReferenceIdeal.τ).loc Cert.ReferenceIdeal.main_v51) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_selected : Cert.On_selected.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_selected (hKernelIdeal := hKernelIdeal) (hReferenceIdeal := hReferenceIdeal) (hOn_selected := hOn_selected)
-- ==== On_selected.lean ====
abbrev S32x8192x64 : Shape := ⟨3, ![32, 8192, 64]⟩
abbrev S_ : Shape := ⟨0, ![]⟩
abbrev S32x8192 : Shape := ⟨2, ![32, 8192]⟩
abbrev S262144x64 : Shape := ⟨2, ![262144, 64]⟩
abbrev S1 : Shape := ⟨1, ![1]⟩
abbrev S2 : Shape := ⟨1, ![2]⟩
abbrev S262144 : Shape := ⟨1, ![262144]⟩
abbrev S262144x1 : Shape := ⟨2, ![262144, 1]⟩
abbrev S262144x2 : Shape := ⟨2, ![262144, 2]⟩
abbrev S32x8192x1 : Shape := ⟨3, ![32, 8192, 1]⟩

class Facts : Prop where
  reducesTo_S32x8192x64_S32x8192_d2 : S32x8192x64.ReducesTo [2] S32x8192
  h_S_ : 0 < S_.numel
  bcast_S_S32x8192 : S_.BroadcastsInDim S32x8192 (![] : Fin 0 → Fin S32x8192.rank)
  shapeCasts_S32x8192x64_S262144x64 : S32x8192x64.ShapeCasts S262144x64
  bcast_S_S1 : S_.BroadcastsInDim S1 (![] : Fin 0 → Fin S1.rank)
  concatenates_S1_S1_S2_d0 : Shape.Concatenates [S1, S1] S2 0
  slices_S2_S1_0 : S2.Slices ![0] S1
  shapeCasts_S1_S_ : S1.ShapeCasts S_
  slices_S2_S1_1 : S2.Slices ![1] S1
  bcast_S_S262144x64 : S_.BroadcastsInDim S262144x64 (![] : Fin 0 → Fin S262144x64.rank)
  natLt_32_64 : 32 < 64
  reducesTo_S262144x64_S262144_d1 : S262144x64.ReducesTo [1] S262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  sliceFits_S262144x64_S262144x2 : S262144x64.Slices (fun _ => 0) S262144x2
  slices_S262144x2_S262144x1_0_1 : S262144x2.Slices ![0, 1] S262144x1
  natLt_1_32 : 1 < 32
  shapeCasts_S262144_S32x8192 : S262144.ShapeCasts S32x8192
  bcast_S32x8192_S32x8192x1_0_1 : S32x8192.BroadcastsInDim S32x8192x1 (![0, 1] : Fin 2 → Fin S32x8192x1.rank)
  bcast_S32x8192x1_S32x8192x64_0_1_2 : S32x8192x1.BroadcastsInDim S32x8192x64 (![0, 1, 2] : Fin 3 → Fin S32x8192x64.rank)
  shapeCasts_S32x8192_S262144x1 : S32x8192.ShapeCasts S262144x1

variable [Facts]

def fn_threefry2x32_part9 {F : FTy → Type} [FloatOps F] (arg0 : IVec S_ 32) (v163 : IVec S262144x64 32) (v169 : IVec S262144x64 32) (v170 : IVec S262144x64 32) : IVec S262144x64 32 × IVec S262144x64 32 :=
  let v171 : IVec S262144x64 32 := addi v163 v170
  let v172 : IVec S262144x64 32 := broadcastInDim S262144x64 ![] bcast_S_S262144x64 arg0
  let v173 : IVec S262144x64 32 := addi v169 v172
  let c_44 : IVec S_ 32 := constantI S_ 32 5#32
  let v174 : IVec S262144x64 32 := broadcastInDim S262144x64 ![] bcast_S_S262144x64 c_44
  let v175 : IVec S262144x64 32 := addi v173 v174
  (v171, v175)

def fn_threefry2x32_part8 {F : FTy → Type} [FloatOps F] (arg0 : IVec S_ 32) (v1 : IVec S_ 32) (v148 : IVec S262144x64 32) (v149 : IVec S262144x64 32) (v151 : IVec S262144x64 32) : IVec S262144x64 32 × IVec S262144x64 32 :=
  let c_39 : IVec S_ 32 := constantI S_ 32 17#32
  let v152 : IVec S262144x64 32 := broadcastInDim S262144x64 ![] bcast_S_S262144x64 c_39
  let v153 : IVec S262144x64 32 := Host.shrui v148 v152
  let v154 : IVec S262144x64 32 := ori v151 v153
  let v155 : IVec S262144x64 32 := xori v149 v154
  let v156 : IVec S262144x64 32 := addi v149 v155
  let c_40 : IVec S_ 32 := constantI S_ 32 26#32
  let v157 : IVec S262144x64 32 := broadcastInDim S262144x64 ![] bcast_S_S262144x64 c_40
  let v158 : IVec S262144x64 32 := Host.shli v155 v157
  let c_41 : IVec S_ 32 := constantI S_ 32 6#32
  let v159 : IVec S262144x64 32 := broadcastInDim S262144x64 ![] bcast_S_S262144x64 c_41
  let v160 : IVec S262144x64 32 := Host.shrui v155 v159
  let v161 : IVec S262144x64 32 := ori v158 v160
  let v162 : IVec S262144x64 32 := xori v156 v161
  let v163 : IVec S262144x64 32 := addi v156 v162
  let c_42 : IVec S_ 32 := constantI S_ 32 6#32
  let v164 : IVec S262144x64 32 := broadcastInDim S262144x64 ![] bcast_S_S262144x64 c_42
  let v165 : IVec S262144x64 32 := Host.shli v162 v164
  let c_43 : IVec S_ 32 := constantI S_ 32 26#32
  let v166 : IVec S262144x64 32 := broadcastInDim S262144x64 ![] bcast_S_S262144x64 c_43
  let v167 : IVec S262144x64 32 := Host.shrui v162 v166
  let v168 : IVec S262144x64 32 := ori v165 v167
  let v169 : IVec S262144x64 32 := xori v163 v168
  let v170 : IVec S262144x64 32 := broadcastInDim S262144x64 ![] bcast_S_S262144x64 v1
  fn_threefry2x32_part9 (F := F) arg0 v163 v169 v170

def fn_threefry2x32_part7 {F : FTy → Type} [FloatOps F] (arg0 : IVec S_ 32) (arg1 : IVec S_ 32) (v1 : IVec S_ 32) (v128 : IVec S262144x64 32) (v129 : IVec S262144x64 32) (v131 : IVec S262144x64 32) (c_34 : IVec S_ 32) : IVec S262144x64 32 × IVec S262144x64 32 :=
  let v132 : IVec S262144x64 32 := broadcastInDim S262144x64 ![] bcast_S_S262144x64 c_34
  let v133 : IVec S262144x64 32 := Host.shrui v128 v132
  let v134 : IVec S262144x64 32 := ori v131 v133
  let v135 : IVec S262144x64 32 := xori v129 v134
  let v136 : IVec S262144x64 32 := broadcastInDim S262144x64 ![] bcast_S_S262144x64 arg1
  let v137 : IVec S262144x64 32 := addi v129 v136
  let v138 : IVec S262144x64 32 := broadcastInDim S262144x64 ![] bcast_S_S262144x64 v1
  let v139 : IVec S262144x64 32 := addi v135 v138
  let c_35 : IVec S_ 32 := constantI S_ 32 4#32
  let v140 : IVec S262144x64 32 := broadcastInDim S262144x64 ![] bcast_S_S262144x64 c_35
  let v141 : IVec S262144x64 32 := addi v139 v140
  let v142 : IVec S262144x64 32 := addi v137 v141
  let c_36 : IVec S_ 32 := constantI S_ 32 13#32
  let v143 : IVec S262144x64 32 := broadcastInDim S262144x64 ![] bcast_S_S262144x64 c_36
  let v144 : IVec S262144x64 32 := Host.shli v141 v143
  let c_37 : IVec S_ 32 := constantI S_ 32 19#32
  let v145 : IVec S262144x64 32 := broadcastInDim S262144x64 ![] bcast_S_S262144x64 c_37
  let v146 : IVec S262144x64 32 := Host.shrui v141 v145
  let v147 : IVec S262144x64 32 := ori v144 v146
  let v148 : IVec S262144x64 32 := xori v142 v147
  let v149 : IVec S262144x64 32 := addi v142 v148
  let c_38 : IVec S_ 32 := constantI S_ 32 15#32
  let v150 : IVec S262144x64 32 := broadcastInDim S262144x64 ![] bcast_S_S262144x64 c_38
  let v151 : IVec S262144x64 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S262144x64 32) (v113 : IVec S262144x64 32) : IVec S262144x64 32 × IVec S262144x64 32 :=
  let v114 : IVec S262144x64 32 := xori v108 v113
  let v115 : IVec S262144x64 32 := addi v108 v114
  let c_29 : IVec S_ 32 := constantI S_ 32 29#32
  let v116 : IVec S262144x64 32 := broadcastInDim S262144x64 ![] bcast_S_S262144x64 c_29
  let v117 : IVec S262144x64 32 := Host.shli v114 v116
  let c_30 : IVec S_ 32 := constantI S_ 32 3#32
  let v118 : IVec S262144x64 32 := broadcastInDim S262144x64 ![] bcast_S_S262144x64 c_30
  let v119 : IVec S262144x64 32 := Host.shrui v114 v118
  let v120 : IVec S262144x64 32 := ori v117 v119
  let v121 : IVec S262144x64 32 := xori v115 v120
  let v122 : IVec S262144x64 32 := addi v115 v121
  let c_31 : IVec S_ 32 := constantI S_ 32 16#32
  let v123 : IVec S262144x64 32 := broadcastInDim S262144x64 ![] bcast_S_S262144x64 c_31
  let v124 : IVec S262144x64 32 := Host.shli v121 v123
  let c_32 : IVec S_ 32 := constantI S_ 32 16#32
  let v125 : IVec S262144x64 32 := broadcastInDim S262144x64 ![] bcast_S_S262144x64 c_32
  let v126 : IVec S262144x64 32 := Host.shrui v121 v125
  let v127 : IVec S262144x64 32 := ori v124 v126
  let v128 : IVec S262144x64 32 := xori v122 v127
  let v129 : IVec S262144x64 32 := addi v122 v128
  let c_33 : IVec S_ 32 := constantI S_ 32 24#32
  let v130 : IVec S262144x64 32 := broadcastInDim S262144x64 ![] bcast_S_S262144x64 c_33
  let v131 : IVec S262144x64 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S262144x64 32) (v94 : IVec S262144x64 32) : IVec S262144x64 32 × IVec S262144x64 32 :=
  let v95 : IVec S262144x64 32 := addi v88 v94
  let c_24 : IVec S_ 32 := constantI S_ 32 6#32
  let v96 : IVec S262144x64 32 := broadcastInDim S262144x64 ![] bcast_S_S262144x64 c_24
  let v97 : IVec S262144x64 32 := Host.shli v94 v96
  let c_25 : IVec S_ 32 := constantI S_ 32 26#32
  let v98 : IVec S262144x64 32 := broadcastInDim S262144x64 ![] bcast_S_S262144x64 c_25
  let v99 : IVec S262144x64 32 := Host.shrui v94 v98
  let v100 : IVec S262144x64 32 := ori v97 v99
  let v101 : IVec S262144x64 32 := xori v95 v100
  let v102 : IVec S262144x64 32 := broadcastInDim S262144x64 ![] bcast_S_S262144x64 arg0
  let v103 : IVec S262144x64 32 := addi v95 v102
  let v104 : IVec S262144x64 32 := broadcastInDim S262144x64 ![] bcast_S_S262144x64 arg1
  let v105 : IVec S262144x64 32 := addi v101 v104
  let c_26 : IVec S_ 32 := constantI S_ 32 3#32
  let v106 : IVec S262144x64 32 := broadcastInDim S262144x64 ![] bcast_S_S262144x64 c_26
  let v107 : IVec S262144x64 32 := addi v105 v106
  let v108 : IVec S262144x64 32 := addi v103 v107
  let c_27 : IVec S_ 32 := constantI S_ 32 17#32
  let v109 : IVec S262144x64 32 := broadcastInDim S262144x64 ![] bcast_S_S262144x64 c_27
  let v110 : IVec S262144x64 32 := Host.shli v107 v109
  let c_28 : IVec S_ 32 := constantI S_ 32 15#32
  let v111 : IVec S262144x64 32 := broadcastInDim S262144x64 ![] bcast_S_S262144x64 c_28
  let v112 : IVec S262144x64 32 := Host.shrui v107 v111
  let v113 : IVec S262144x64 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S262144x64 32) (v74 : IVec S262144x64 32) (v75 : IVec S262144x64 32) : IVec S262144x64 32 × IVec S262144x64 32 :=
  let v76 : IVec S262144x64 32 := Host.shli v73 v75
  let c_19 : IVec S_ 32 := constantI S_ 32 19#32
  let v77 : IVec S262144x64 32 := broadcastInDim S262144x64 ![] bcast_S_S262144x64 c_19
  let v78 : IVec S262144x64 32 := Host.shrui v73 v77
  let v79 : IVec S262144x64 32 := ori v76 v78
  let v80 : IVec S262144x64 32 := xori v74 v79
  let v81 : IVec S262144x64 32 := addi v74 v80
  let c_20 : IVec S_ 32 := constantI S_ 32 15#32
  let v82 : IVec S262144x64 32 := broadcastInDim S262144x64 ![] bcast_S_S262144x64 c_20
  let v83 : IVec S262144x64 32 := Host.shli v80 v82
  let c_21 : IVec S_ 32 := constantI S_ 32 17#32
  let v84 : IVec S262144x64 32 := broadcastInDim S262144x64 ![] bcast_S_S262144x64 c_21
  let v85 : IVec S262144x64 32 := Host.shrui v80 v84
  let v86 : IVec S262144x64 32 := ori v83 v85
  let v87 : IVec S262144x64 32 := xori v81 v86
  let v88 : IVec S262144x64 32 := addi v81 v87
  let c_22 : IVec S_ 32 := constantI S_ 32 26#32
  let v89 : IVec S262144x64 32 := broadcastInDim S262144x64 ![] bcast_S_S262144x64 c_22
  let v90 : IVec S262144x64 32 := Host.shli v87 v89
  let c_23 : IVec S_ 32 := constantI S_ 32 6#32
  let v91 : IVec S262144x64 32 := broadcastInDim S262144x64 ![] bcast_S_S262144x64 c_23
  let v92 : IVec S262144x64 32 := Host.shrui v87 v91
  let v93 : IVec S262144x64 32 := ori v90 v92
  let v94 : IVec S262144x64 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S262144x64 32) (v54 : IVec S262144x64 32) (v56 : IVec S262144x64 32) : IVec S262144x64 32 × IVec S262144x64 32 :=
  let c_14 : IVec S_ 32 := constantI S_ 32 16#32
  let v57 : IVec S262144x64 32 := broadcastInDim S262144x64 ![] bcast_S_S262144x64 c_14
  let v58 : IVec S262144x64 32 := Host.shrui v53 v57
  let v59 : IVec S262144x64 32 := ori v56 v58
  let v60 : IVec S262144x64 32 := xori v54 v59
  let v61 : IVec S262144x64 32 := addi v54 v60
  let c_15 : IVec S_ 32 := constantI S_ 32 24#32
  let v62 : IVec S262144x64 32 := broadcastInDim S262144x64 ![] bcast_S_S262144x64 c_15
  let v63 : IVec S262144x64 32 := Host.shli v60 v62
  let c_16 : IVec S_ 32 := constantI S_ 32 8#32
  let v64 : IVec S262144x64 32 := broadcastInDim S262144x64 ![] bcast_S_S262144x64 c_16
  let v65 : IVec S262144x64 32 := Host.shrui v60 v64
  let v66 : IVec S262144x64 32 := ori v63 v65
  let v67 : IVec S262144x64 32 := xori v61 v66
  let v68 : IVec S262144x64 32 := broadcastInDim S262144x64 ![] bcast_S_S262144x64 v1
  let v69 : IVec S262144x64 32 := addi v61 v68
  let v70 : IVec S262144x64 32 := broadcastInDim S262144x64 ![] bcast_S_S262144x64 arg0
  let v71 : IVec S262144x64 32 := addi v67 v70
  let c_17 : IVec S_ 32 := constantI S_ 32 2#32
  let v72 : IVec S262144x64 32 := broadcastInDim S262144x64 ![] bcast_S_S262144x64 c_17
  let v73 : IVec S262144x64 32 := addi v71 v72
  let v74 : IVec S262144x64 32 := addi v69 v73
  let c_18 : IVec S_ 32 := constantI S_ 32 13#32
  let v75 : IVec S262144x64 32 := broadcastInDim S262144x64 ![] bcast_S_S262144x64 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S262144x64 32) (v37 : IVec S262144x64 32) (c_8 : IVec S_ 32) : IVec S262144x64 32 × IVec S262144x64 32 :=
  let v38 : IVec S262144x64 32 := broadcastInDim S262144x64 ![] bcast_S_S262144x64 c_8
  let v39 : IVec S262144x64 32 := addi v37 v38
  let v40 : IVec S262144x64 32 := addi v35 v39
  let c_9 : IVec S_ 32 := constantI S_ 32 17#32
  let v41 : IVec S262144x64 32 := broadcastInDim S262144x64 ![] bcast_S_S262144x64 c_9
  let v42 : IVec S262144x64 32 := Host.shli v39 v41
  let c_10 : IVec S_ 32 := constantI S_ 32 15#32
  let v43 : IVec S262144x64 32 := broadcastInDim S262144x64 ![] bcast_S_S262144x64 c_10
  let v44 : IVec S262144x64 32 := Host.shrui v39 v43
  let v45 : IVec S262144x64 32 := ori v42 v44
  let v46 : IVec S262144x64 32 := xori v40 v45
  let v47 : IVec S262144x64 32 := addi v40 v46
  let c_11 : IVec S_ 32 := constantI S_ 32 29#32
  let v48 : IVec S262144x64 32 := broadcastInDim S262144x64 ![] bcast_S_S262144x64 c_11
  let v49 : IVec S262144x64 32 := Host.shli v46 v48
  let c_12 : IVec S_ 32 := constantI S_ 32 3#32
  let v50 : IVec S262144x64 32 := broadcastInDim S262144x64 ![] bcast_S_S262144x64 c_12
  let v51 : IVec S262144x64 32 := Host.shrui v46 v50
  let v52 : IVec S262144x64 32 := ori v49 v51
  let v53 : IVec S262144x64 32 := xori v47 v52
  let v54 : IVec S262144x64 32 := addi v47 v53
  let c_13 : IVec S_ 32 := constantI S_ 32 16#32
  let v55 : IVec S262144x64 32 := broadcastInDim S262144x64 ![] bcast_S_S262144x64 c_13
  let v56 : IVec S262144x64 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S262144x64 32) (v18 : IVec S262144x64 32) : IVec S262144x64 32 × IVec S262144x64 32 :=
  let v19 : IVec S262144x64 32 := xori v13 v18
  let v20 : IVec S262144x64 32 := addi v13 v19
  let c_4 : IVec S_ 32 := constantI S_ 32 26#32
  let v21 : IVec S262144x64 32 := broadcastInDim S262144x64 ![] bcast_S_S262144x64 c_4
  let v22 : IVec S262144x64 32 := Host.shli v19 v21
  let c_5 : IVec S_ 32 := constantI S_ 32 6#32
  let v23 : IVec S262144x64 32 := broadcastInDim S262144x64 ![] bcast_S_S262144x64 c_5
  let v24 : IVec S262144x64 32 := Host.shrui v19 v23
  let v25 : IVec S262144x64 32 := ori v22 v24
  let v26 : IVec S262144x64 32 := xori v20 v25
  let v27 : IVec S262144x64 32 := addi v20 v26
  let c_6 : IVec S_ 32 := constantI S_ 32 6#32
  let v28 : IVec S262144x64 32 := broadcastInDim S262144x64 ![] bcast_S_S262144x64 c_6
  let v29 : IVec S262144x64 32 := Host.shli v26 v28
  let c_7 : IVec S_ 32 := constantI S_ 32 26#32
  let v30 : IVec S262144x64 32 := broadcastInDim S262144x64 ![] bcast_S_S262144x64 c_7
  let v31 : IVec S262144x64 32 := Host.shrui v26 v30
  let v32 : IVec S262144x64 32 := ori v29 v31
  let v33 : IVec S262144x64 32 := xori v27 v32
  let v34 : IVec S262144x64 32 := broadcastInDim S262144x64 ![] bcast_S_S262144x64 arg1
  let v35 : IVec S262144x64 32 := addi v27 v34
  let v36 : IVec S262144x64 32 := broadcastInDim S262144x64 ![] bcast_S_S262144x64 v1
  let v37 : IVec S262144x64 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S262144x64 32) (arg3 : IVec S262144x64 32) : IVec S262144x64 32 × IVec S262144x64 32 :=
  let v0 : IVec S_ 32 := xori arg0 arg1
  let c : IVec S_ 32 := constantI S_ 32 466688986#32
  let v1 : IVec S_ 32 := xori v0 c
  let v2 : IVec S262144x64 32 := broadcastInDim S262144x64 ![] bcast_S_S262144x64 arg0
  let v3 : IVec S262144x64 32 := addi arg2 v2
  let v4 : IVec S262144x64 32 := broadcastInDim S262144x64 ![] bcast_S_S262144x64 arg1
  let v5 : IVec S262144x64 32 := addi arg3 v4
  let v6 : IVec S262144x64 32 := addi v3 v5
  let c_0 : IVec S_ 32 := constantI S_ 32 13#32
  let v7 : IVec S262144x64 32 := broadcastInDim S262144x64 ![] bcast_S_S262144x64 c_0
  let v8 : IVec S262144x64 32 := Host.shli v5 v7
  let c_1 : IVec S_ 32 := constantI S_ 32 19#32
  let v9 : IVec S262144x64 32 := broadcastInDim S262144x64 ![] bcast_S_S262144x64 c_1
  let v10 : IVec S262144x64 32 := Host.shrui v5 v9
  let v11 : IVec S262144x64 32 := ori v8 v10
  let v12 : IVec S262144x64 32 := xori v6 v11
  let v13 : IVec S262144x64 32 := addi v6 v12
  let c_2 : IVec S_ 32 := constantI S_ 32 15#32
  let v14 : IVec S262144x64 32 := broadcastInDim S262144x64 ![] bcast_S_S262144x64 c_2
  let v15 : IVec S262144x64 32 := Host.shli v12 v14
  let c_3 : IVec S_ 32 := constantI S_ 32 17#32
  let v16 : IVec S262144x64 32 := broadcastInDim S262144x64 ![] bcast_S_S262144x64 c_3
  let v17 : IVec S262144x64 32 := Host.shrui v12 v16
  let v18 : IVec S262144x64 32 := ori v15 v17
  fn_threefry2x32_part1 (F := F) arg0 arg1 v1 v13 v18

def fn_part5 {F : FTy → Type} [FloatOps F] (main_v5 : IVec S32x8192 1) (main_v89 : IVec S32x8192 1) : IVec S32x8192x64 1 × IVec S262144x64 1 :=
  let main_v90 : IVec S32x8192x1 1 := broadcastInDim S32x8192x1 ![0, 1] bcast_S32x8192_S32x8192x1_0_1 main_v89
  let main_v91 : IVec S32x8192x64 1 := broadcastInDim S32x8192x64 ![0, 1, 2] bcast_S32x8192x1_S32x8192x64_0_1_2 main_v90
  let main_v92 : IVec S262144x1 1 := shapeCast S262144x1 main_v5 shapeCasts_S32x8192_S262144x1
  let main_v93 : IVec S262144x64 1 := broadcastInDim S262144x64 ![0, 1] bcast_S262144x1_S262144x64_0_1 main_v92
  (main_v91, main_v93)

def fn_part4 {F : FTy → Type} [FloatOps F] (main_v5 : IVec S32x8192 1) (main_v60 : FVec F S262144x64 .f32) (main_v68 : FVec F S262144x64 .f32) (main_v69 : FVec F S262144 .f32) (main_v70 : FVec F S262144 .f32) : IVec S32x8192x64 1 × IVec S262144x64 1 :=
  let main_v71 : FVec F S262144 .f32 := maximumf main_v70 main_v69
  let main_v72 : FVec F S262144x1 .f32 := broadcastInDim S262144x1 ![0] bcast_S262144_S262144x1_0 main_v71
  let main_v73 : FVec F S262144x64 .f32 := broadcastInDim S262144x64 ![0, 1] bcast_S262144x1_S262144x64_0_1 main_v72
  let main_v74 : FVec F S262144x64 .f32 := subf main_v68 main_v73
  let main_v75 : FVec F S262144x64 .f32 := Host.exp main_v74
  let main_cst_22 : FVec F S_ .f32 := constant S_ .f32 0x00000000#32
  let main_v76 : FVec F S262144 .f32 := (fun x v => Host.reduceAdd x v reducesTo_S262144x64_S262144_d1 h_S_) main_v75 main_cst_22
  let main_v77 : FVec F S262144x1 .f32 := broadcastInDim S262144x1 ![0] bcast_S262144_S262144x1_0 main_v76
  let main_v78 : FVec F S262144x64 .f32 := broadcastInDim S262144x64 ![0, 1] bcast_S262144x1_S262144x64_0_1 main_v77
  let main_v79 : FVec F S262144x64 .f32 := Host.divf main_v75 main_v78
  let main_v80 : FVec F S262144x64 .f32 := addf main_v60 main_v79
  let main_values : FVec F S262144x2 .f32 := (fun x => (Host.topK S262144x2 1 (FloatOps.cmpfTotal .gt) x sliceFits_S262144x64_S262144x2).1) main_v80
  let main_indices : IVec S262144x2 32 := (fun x => (Host.topK S262144x2 1 (FloatOps.cmpfTotal .gt) x sliceFits_S262144x64_S262144x2).2) main_v80
  let main_v81 : FVec F S262144x1 .f32 := (extractStridedSlice S262144x1 ![0, 1] · slices_S262144x2_S262144x1_0_1) main_values
  let main_v82 : FVec F S262144x64 .f32 := broadcastInDim S262144x64 ![0, 1] bcast_S262144x1_S262144x64_0_1 main_v81
  let main_v83 : IVec S262144x64 1 := cmpf .oge main_v80 main_v82
  let main_v84 : IVec S262144x64 32 := (extui 32 · natLt_1_32) main_v83
  let main_c_23 : IVec S_ 32 := constantI S_ 32 0#32
  let main_v85 : IVec S262144 32 := (fun x v => Host.reduce IntOp.addi x v reducesTo_S262144x64_S262144_d1 h_S_) main_v84 main_c_23
  let main_c_24 : IVec S_ 32 := constantI S_ 32 2#32
  let main_v86 : IVec S262144 32 := broadcastInDim S262144 ![] bcast_S_S262144 main_c_24
  let main_v87 : IVec S262144 1 := cmpi .eq main_v85 main_v86
  let main_v88 : IVec S32x8192 1 := shapeCast S32x8192 main_v87 shapeCasts_S262144_S32x8192
  let main_v89 : IVec S32x8192 1 := andi main_v5 main_v88
  fn_part5 (F := F) main_v5 main_v89

def fn_part3 {F : FTy → Type} [FloatOps F] (main_v5 : IVec S32x8192 1) (main_v47 : FVec F S262144x64 .f32) (main_v49 : FVec F S262144x64 .f32) (main_v52 : FVec F S262144 .f32) : IVec S32x8192x64 1 × IVec S262144x64 1 :=
  let main_v53 : FVec F S262144x1 .f32 := broadcastInDim S262144x1 ![0] bcast_S262144_S262144x1_0 main_v52
  let main_v54 : FVec F S262144x64 .f32 := broadcastInDim S262144x64 ![0, 1] bcast_S262144x1_S262144x64_0_1 main_v53
  let main_v55 : FVec F S262144x64 .f32 := subf main_v49 main_v54
  let main_v56 : FVec F S262144x64 .f32 := Host.exp main_v55
  let main_cst_16 : FVec F S_ .f32 := constant S_ .f32 0x00000000#32
  let main_v57 : FVec F S262144 .f32 := (fun x v => Host.reduceAdd x v reducesTo_S262144x64_S262144_d1 h_S_) main_v56 main_cst_16
  let main_v58 : FVec F S262144x1 .f32 := broadcastInDim S262144x1 ![0] bcast_S262144_S262144x1_0 main_v57
  let main_v59 : FVec F S262144x64 .f32 := broadcastInDim S262144x64 ![0, 1] bcast_S262144x1_S262144x64_0_1 main_v58
  let main_v60 : FVec F S262144x64 .f32 := Host.divf main_v56 main_v59
  let main_cst_17 : FVec F S_ .f32 := constant S_ .f32 0x3F800000#32
  let main_v61 : FVec F S262144x64 .f32 := broadcastInDim S262144x64 ![] bcast_S_S262144x64 main_cst_17
  let main_v62 : FVec F S262144x64 .f32 := subf main_v61 main_v60
  let main_cst_18 : FVec F S_ .f32 := constant S_ .f32 0x00800000#32
  let main_v63 : FVec F S262144x64 .f32 := broadcastInDim S262144x64 ![] bcast_S_S262144x64 main_cst_18
  let main_v64 : FVec F S262144x64 .f32 := maximumf main_v62 main_v63
  let main_v65 : FVec F S262144x64 .f32 := Host.log main_v64
  let main_v66 : FVec F S262144x64 .f32 := addf main_v47 main_v65
  let main_cst_19 : FVec F S_ .f32 := constant S_ .f32 0x3DCCCCCD#32
  let main_v67 : FVec F S262144x64 .f32 := broadcastInDim S262144x64 ![] bcast_S_S262144x64 main_cst_19
  let main_v68 : FVec F S262144x64 .f32 := Host.divf main_v66 main_v67
  let main_cst_20 : FVec F S_ .f32 := constant S_ .f32 0xFF800000#32
  let main_v69 : FVec F S262144 .f32 := (fun x v => Host.reduce FloatOps.maximumf x v reducesTo_S262144x64_S262144_d1 h_S_) main_v68 main_cst_20
  let main_cst_21 : FVec F S_ .f32 := constant S_ .f32 0xFF800000#32
  let main_v70 : FVec F S262144 .f32 := broadcastInDim S262144 ![] bcast_S_S262144 main_cst_21
  fn_part4 (F := F) main_v5 main_v60 main_v68 main_v69 main_v70

def fn_part2 {F : FTy → Type} [FloatOps F] (main_v5 : IVec S32x8192 1) (main_v6 : FVec F S262144x64 .f32) (main_v34 : FVec F S262144x64 .f32) (main_v35 : FVec F S262144x64 .f32) : IVec S32x8192x64 1 × IVec S262144x64 1 :=
  let main_v36 : FVec F S262144x64 .f32 := mulf main_v34 main_v35
  let main_cst_9 : FVec F S_ .f32 := constant S_ .f32 0x3F800000#32
  let main_cst_10 : FVec F S_ .f32 := constant S_ .f32 0x00800000#32
  let main_v37 : FVec F S_ .f32 := subf main_cst_9 main_cst_10
  let main_v38 : FVec F S262144x64 .f32 := broadcastInDim S262144x64 ![] bcast_S_S262144x64 main_v37
  let main_v39 : FVec F S262144x64 .f32 := mulf main_v36 main_v38
  let main_cst_11 : FVec F S_ .f32 := constant S_ .f32 0x00800000#32
  let main_v40 : FVec F S262144x64 .f32 := broadcastInDim S262144x64 ![] bcast_S_S262144x64 main_cst_11
  let main_v41 : FVec F S262144x64 .f32 := addf main_v39 main_v40
  let main_cst_12 : FVec F S_ .f32 := constant S_ .f32 0x00800000#32
  let main_v42 : FVec F S262144x64 .f32 := broadcastInDim S262144x64 ![] bcast_S_S262144x64 main_cst_12
  let main_v43 : FVec F S262144x64 .f32 := maximumf main_v42 main_v41
  let main_v44 : FVec F S262144x64 .f32 := Host.log main_v43
  let main_v45 : FVec F S262144x64 .f32 := Host.negf main_v44
  let main_v46 : FVec F S262144x64 .f32 := Host.log main_v45
  let main_v47 : FVec F S262144x64 .f32 := subf main_v6 main_v46
  let main_cst_13 : FVec F S_ .f32 := constant S_ .f32 0x3DCCCCCD#32
  let main_v48 : FVec F S262144x64 .f32 := broadcastInDim S262144x64 ![] bcast_S_S262144x64 main_cst_13
  let main_v49 : FVec F S262144x64 .f32 := Host.divf main_v47 main_v48
  let main_cst_14 : FVec F S_ .f32 := constant S_ .f32 0xFF800000#32
  let main_v50 : FVec F S262144 .f32 := (fun x v => Host.reduce FloatOps.maximumf x v reducesTo_S262144x64_S262144_d1 h_S_) main_v49 main_cst_14
  let main_cst_15 : FVec F S_ .f32 := constant S_ .f32 0xFF800000#32
  let main_v51 : FVec F S262144 .f32 := broadcastInDim S262144 ![] bcast_S_S262144 main_cst_15
  let main_v52 : FVec F S262144 .f32 := maximumf main_v51 main_v50
  fn_part3 (F := F) main_v5 main_v47 main_v49 main_v52

def fn_part1 {F : FTy → Type} [FloatOps F] (main_v5 : IVec S32x8192 1) (main_v6 : FVec F S262144x64 .f32) (main_v15 : IVec S_ 32) (main_v17 : IVec S_ 32) : IVec S32x8192x64 1 × IVec S262144x64 1 :=
  let main_v18 : IVec S262144x64 64 := iotaInDim S262144x64 64 0
  let main_v19 : IVec S262144x64 64 := iotaInDim S262144x64 64 1
  let main_c_4 : IVec S_ 64 := constantI S_ 64 64#64
  let main_v20 : IVec S262144x64 64 := broadcastInDim S262144x64 ![] bcast_S_S262144x64 main_c_4
  let main_v21 : IVec S262144x64 64 := muli main_v20 main_v18
  let main_c_5 : IVec S_ 64 := constantI S_ 64 1#64
  let main_v22 : IVec S262144x64 64 := broadcastInDim S262144x64 ![] bcast_S_S262144x64 main_c_5
  let main_v23 : IVec S262144x64 64 := muli main_v22 main_v19
  let main_v24 : IVec S262144x64 64 := addi main_v21 main_v23
  let main_c_6 : IVec S_ 64 := constantI S_ 64 32#64
  let main_v25 : IVec S262144x64 64 := broadcastInDim S262144x64 ![] bcast_S_S262144x64 main_c_6
  let main_v26 : IVec S262144x64 64 := Host.shrui main_v24 main_v25
  let main_v27 : IVec S262144x64 32 := (trunci 32 · natLt_32_64) main_v24
  let main_v28 : IVec S262144x64 32 := (trunci 32 · natLt_32_64) main_v26
  let main_v29_0 : IVec S262144x64 32 := (fn_threefry2x32 (F := F) main_v15 main_v17 main_v28 main_v27).1
  let main_v29_1 : IVec S262144x64 32 := (fn_threefry2x32 (F := F) main_v15 main_v17 main_v28 main_v27).2
  let main_v30 : IVec S262144x64 32 := xori main_v29_0 main_v29_1
  let main_c_7 : IVec S_ 32 := constantI S_ 32 9#32
  let main_v31 : IVec S262144x64 32 := broadcastInDim S262144x64 ![] bcast_S_S262144x64 main_c_7
  let main_v32 : IVec S262144x64 32 := Host.shrui main_v30 main_v31
  let main_v33 : IVec S262144x64 32 := id main_v32
  let main_v34 : FVec F S262144x64 .f32 := sitofp .f32 main_v33
  let main_cst_8 : FVec F S_ .f32 := constant S_ .f32 0x34000000#32
  let main_v35 : FVec F S262144x64 .f32 := broadcastInDim S262144x64 ![] bcast_S_S262144x64 main_cst_8
  fn_part2 (F := F) main_v5 main_v6 main_v34 main_v35

def fn {F : FTy → Type} [FloatOps F] (main_arg0 : FVec F S32x8192x64 .f32) : IVec S32x8192x64 1 × IVec S262144x64 1 :=
  let main_cst : FVec F S_ .f32 := constant S_ .f32 0xFF800000#32
  let main_v0 : FVec F S32x8192 .f32 := (fun x v => Host.reduce FloatOps.maximumf x v reducesTo_S32x8192x64_S32x8192_d2 h_S_) main_arg0 main_cst
  let main_cst_0 : FVec F S_ .f32 := constant S_ .f32 0xFF800000#32
  let main_v1 : FVec F S32x8192 .f32 := broadcastInDim S32x8192 ![] bcast_S_S32x8192 main_cst_0
  let main_v2 : IVec S32x8192 1 := cmpf .ogt main_v0 main_v1
  let main_cst_1 : FVec F S_ .f32 := constant S_ .f32 0x7F800000#32
  let main_v3 : FVec F S32x8192 .f32 := broadcastInDim S32x8192 ![] bcast_S_S32x8192 main_cst_1
  let main_v4 : IVec S32x8192 1 := cmpf .olt main_v0 main_v3
  let main_v5 : IVec S32x8192 1 := andi main_v2 main_v4
  let main_v6 : FVec F S262144x64 .f32 := shapeCast S262144x64 main_arg0 shapeCasts_S32x8192x64_S262144x64
  let main_c : IVec S_ 32 := constantI S_ 32 1#32
  let main_c_2 : IVec S_ 32 := constantI S_ 32 32#32
  let main_v7 : IVec S_ 32 := Host.shrui main_c main_c_2
  let main_v8 : IVec S_ 32 := id main_v7
  let main_v9 : IVec S1 32 := broadcastInDim S1 ![] bcast_S_S1 main_v8
  let main_c_3 : IVec S_ 32 := constantI S_ 32 4294967295#32
  let main_v10 : IVec S_ 32 := andi main_c main_c_3
  let main_v11 : IVec S_ 32 := id main_v10
  let main_v12 : IVec S1 32 := broadcastInDim S1 ![] bcast_S_S1 main_v11
  let main_v13 : IVec S2 32 := (fun a b => concatenate S2 0 [⟨S1, a⟩, ⟨S1, b⟩] concatenates_S1_S1_S2_d0) main_v9 main_v12
  let main_v14 : IVec S1 32 := (extractStridedSlice S1 ![0] · slices_S2_S1_0) main_v13
  let main_v15 : IVec S_ 32 := shapeCast S_ main_v14 shapeCasts_S1_S_
  let main_v16 : IVec S1 32 := (extractStridedSlice S1 ![1] · slices_S2_S1_1) main_v13
  let main_v17 : IVec S_ 32 := shapeCast S_ main_v16 shapeCasts_S1_S_
  fn_part1 (F := F) main_v5 main_v6 main_v15 main_v17
-- ==== Kernel.lean ====
abbrev S32x8192x64 : Shape := ⟨3, ![32, 8192, 64]⟩
abbrev S32x64x8192 : Shape := ⟨3, ![32, 64, 8192]⟩
abbrev S16777216 : Shape := ⟨1, ![16777216]⟩
abbrev S_ : Shape := ⟨0, ![]⟩
abbrev S262144x64 : Shape := ⟨2, ![262144, 64]⟩
abbrev S64x262144 : Shape := ⟨2, ![64, 262144]⟩
abbrev S2x64x8192 : Shape := ⟨3, ![2, 64, 8192]⟩
abbrev S64x16384 : Shape := ⟨2, ![64, 16384]⟩
abbrev S1x64x8192 : Shape := ⟨3, ![1, 64, 8192]⟩
abbrev S64x8192 : Shape := ⟨2, ![64, 8192]⟩
abbrev S8192 : Shape := ⟨1, ![8192]⟩
abbrev S1x8192 : Shape := ⟨2, ![1, 8192]⟩

abbrev nBuf : Space → Nat
  | .hbm => 268
  | .vmem => 8
  | .smem => 0
  | _ => 0

abbrev hbmTy0_0 (i : Nat) : BufTy := match i % 128 with
  | 0 => ⟨S32x8192x64, .f32⟩
  | 1 => ⟨S32x64x8192, .f32⟩
  | 2 => ⟨S16777216, .i32⟩
  | 3 => ⟨S_, .i32⟩
  | 4 => ⟨S16777216, .i32⟩
  | 5 => ⟨S_, .i32⟩
  | 6 => ⟨S16777216, .i32⟩
  | 7 => ⟨S16777216, .i32⟩
  | 8 => ⟨S_, .i32⟩
  | 9 => ⟨S16777216, .i32⟩
  | 10 => ⟨S16777216, .i32⟩
  | 11 => ⟨S16777216, .i32⟩
  | 12 => ⟨S_, .i32⟩
  | 13 => ⟨S16777216, .i32⟩
  | 14 => ⟨S16777216, .i32⟩
  | 15 => ⟨S_, .i32⟩
  | 16 => ⟨S16777216, .i32⟩
  | 17 => ⟨S16777216, .i32⟩
  | 18 => ⟨S16777216, .i32⟩
  | 19 => ⟨S16777216, .i32⟩
  | 20 => ⟨S16777216, .i32⟩
  | 21 => ⟨S_, .i32⟩
  | 22 => ⟨S16777216, .i32⟩
  | 23 => ⟨S16777216, .i32⟩
  | 24 => ⟨S_, .i32⟩
  | 25 => ⟨S16777216, .i32⟩
  | 26 => ⟨S16777216, .i32⟩
  | 27 => ⟨S16777216, .i32⟩
  | 28 => ⟨S16777216, .i32⟩
  | 29 => ⟨S16777216, .i32⟩
  | 30 => ⟨S_, .i32⟩
  | 31 => ⟨S16777216, .i32⟩
  | 32 => ⟨S16777216, .i32⟩
  | 33 => ⟨S_, .i32⟩
  | 34 => ⟨S16777216, .i32⟩
  | 35 => ⟨S16777216, .i32⟩
  | 36 => ⟨S16777216, .i32⟩
  | 37 => ⟨S16777216, .i32⟩
  | 38 => ⟨S16777216, .i32⟩
  | 39 => ⟨S_, .i32⟩
  | 40 => ⟨S16777216, .i32⟩
  | 41 => ⟨S16777216, .i32⟩
  | 42 => ⟨S_, .i32⟩
  | 43 => ⟨S16777216, .i32⟩
  | 44 => ⟨S16777216, .i32⟩
  | 45 => ⟨S16777216, .i32⟩
  | 46 => ⟨S16777216, .i32⟩
  | 47 => ⟨S_, .i32⟩
  | 48 => ⟨S16777216, .i32⟩
  | 49 => ⟨S16777216, .i32⟩
  | 50 => ⟨S_, .i32⟩
  | 51 => ⟨S16777216, .i32⟩
  | 52 => ⟨S16777216, .i32⟩
  | 53 => ⟨S_, .i32⟩
  | 54 => ⟨S16777216, .i32⟩
  | 55 => ⟨S16777216, .i32⟩
  | 56 => ⟨S16777216, .i32⟩
  | 57 => ⟨S_, .i32⟩
  | 58 => ⟨S16777216, .i32⟩
  | 59 => ⟨S16777216, .i32⟩
  | 60 => ⟨S_, .i32⟩
  | 61 => ⟨S16777216, .i32⟩
  | 62 => ⟨S16777216, .i32⟩
  | 63 => ⟨S16777216, .i32⟩
  | 64 => ⟨S16777216, .i32⟩
  | 65 => ⟨S16777216, .i32⟩
  | 66 => ⟨S_, .i32⟩
  | 67 => ⟨S16777216, .i32⟩
  | 68 => ⟨S16777216, .i32⟩
  | 69 => ⟨S_, .i32⟩
  | 70 => ⟨S16777216, .i32⟩
  | 71 => ⟨S16777216, .i32⟩
  | 72 => ⟨S16777216, .i32⟩
  | 73 => ⟨S16777216, .i32⟩
  | 74 => ⟨S16777216, .i32⟩
  | 75 => ⟨S_, .i32⟩
  | 76 => ⟨S16777216, .i32⟩
  | 77 => ⟨S16777216, .i32⟩
  | 78 => ⟨S_, .i32⟩
  | 79 => ⟨S16777216, .i32⟩
  | 80 => ⟨S16777216, .i32⟩
  | 81 => ⟨S16777216, .i32⟩
  | 82 => ⟨S16777216, .i32⟩
  | 83 => ⟨S16777216, .i32⟩
  | 84 => ⟨S_, .i32⟩
  | 85 => ⟨S16777216, .i32⟩
  | 86 => ⟨S16777216, .i32⟩
  | 87 => ⟨S_, .i32⟩
  | 88 => ⟨S16777216, .i32⟩
  | 89 => ⟨S16777216, .i32⟩
  | 90 => ⟨S16777216, .i32⟩
  | 91 => ⟨S16777216, .i32⟩
  | 92 => ⟨S_, .i32⟩
  | 93 => ⟨S16777216, .i32⟩
  | 94 => ⟨S16777216, .i32⟩
  | 95 => ⟨S_, .i32⟩
  | 96 => ⟨S16777216, .i32⟩
  | 97 => ⟨S16777216, .i32⟩
  | 98 => ⟨S_, .i32⟩
  | 99 => ⟨S16777216, .i32⟩
  | 100 => ⟨S16777216, .i32⟩
  | 101 => ⟨S16777216, .i32⟩
  | 102 => ⟨S_, .i32⟩
  | 103 => ⟨S16777216, .i32⟩
  | 104 => ⟨S16777216, .i32⟩
  | 105 => ⟨S_, .i32⟩
  | 106 => ⟨S16777216, .i32⟩
  | 107 => ⟨S16777216, .i32⟩
  | 108 => ⟨S16777216, .i32⟩
  | 109 => ⟨S16777216, .i32⟩
  | 110 => ⟨S16777216, .i32⟩
  | 111 => ⟨S_, .i32⟩
  | 112 => ⟨S16777216, .i32⟩
  | 113 => ⟨S16777216, .i32⟩
  | 114 => ⟨S_, .i32⟩
  | 115 => ⟨S16777216, .i32⟩
  | 116 => ⟨S16777216, .i32⟩
  | 117 => ⟨S16777216, .i32⟩
  | 118 => ⟨S16777216, .i32⟩
  | 119 => ⟨S16777216, .i32⟩
  | 120 => ⟨S_, .i32⟩
  | 121 => ⟨S16777216, .i32⟩
  | 122 => ⟨S16777216, .i32⟩
  | 123 => ⟨S_, .i32⟩
  | 124 => ⟨S16777216, .i32⟩
  | 125 => ⟨S16777216, .i32⟩
  | 126 => ⟨S16777216, .i32⟩
  | 127 => ⟨S16777216, .i32⟩
  | _ => ⟨S32x8192x64, .f32⟩

abbrev hbmTy0_1 (i : Nat) : BufTy := match i % 128 with
  | 0 => ⟨S16777216, .i32⟩
  | 1 => ⟨S_, .i32⟩
  | 2 => ⟨S16777216, .i32⟩
  | 3 => ⟨S16777216, .i32⟩
  | 4 => ⟨S_, .i32⟩
  | 5 => ⟨S16777216, .i32⟩
  | 6 => ⟨S16777216, .i32⟩
  | 7 => ⟨S16777216, .i32⟩
  | 8 => ⟨S16777216, .i32⟩
  | 9 => ⟨S_, .i32⟩
  | 10 => ⟨S16777216, .i32⟩
  | 11 => ⟨S16777216, .i32⟩
  | 12 => ⟨S_, .i32⟩
  | 13 => ⟨S16777216, .i32⟩
  | 14 => ⟨S16777216, .i32⟩
  | 15 => ⟨S_, .i32⟩
  | 16 => ⟨S16777216, .i32⟩
  | 17 => ⟨S16777216, .i32⟩
  | 18 => ⟨S16777216, .i32⟩
  | 19 => ⟨S_, .i32⟩
  | 20 => ⟨S16777216, .i32⟩
  | 21 => ⟨S16777216, .i32⟩
  | 22 => ⟨S_, .i32⟩
  | 23 => ⟨S16777216, .i32⟩
  | 24 => ⟨S16777216, .i32⟩
  | 25 => ⟨S16777216, .i32⟩
  | 26 => ⟨S16777216, .i32⟩
  | 27 => ⟨S16777216, .i32⟩
  | 28 => ⟨S_, .i32⟩
  | 29 => ⟨S16777216, .i32⟩
  | 30 => ⟨S16777216, .i32⟩
  | 31 => ⟨S_, .i32⟩
  | 32 => ⟨S16777216, .i32⟩
  | 33 => ⟨S16777216, .i32⟩
  | 34 => ⟨S16777216, .i32⟩
  | 35 => ⟨S16777216, .i32⟩
  | 36 => ⟨S16777216, .i32⟩
  | 37 => ⟨S_, .i32⟩
  | 38 => ⟨S16777216, .i32⟩
  | 39 => ⟨S16777216, .i32⟩
  | 40 => ⟨S_, .i32⟩
  | 41 => ⟨S16777216, .i32⟩
  | 42 => ⟨S16777216, .i32⟩
  | 43 => ⟨S16777216, .i32⟩
  | 44 => ⟨S16777216, .i32⟩
  | 45 => ⟨S16777216, .i32⟩
  | 46 => ⟨S_, .i32⟩
  | 47 => ⟨S16777216, .i32⟩
  | 48 => ⟨S16777216, .i32⟩
  | 49 => ⟨S_, .i32⟩
  | 50 => ⟨S16777216, .i32⟩
  | 51 => ⟨S16777216, .i32⟩
  | 52 => ⟨S16777216, .i32⟩
  | 53 => ⟨S16777216, .i32⟩
  | 54 => ⟨S_, .i32⟩
  | 55 => ⟨S16777216, .i32⟩
  | 56 => ⟨S16777216, .i32⟩
  | 57 => ⟨S_, .i32⟩
  | 58 => ⟨S16777216, .i32⟩
  | 59 => ⟨S16777216, .i32⟩
  | 60 => ⟨S_, .i32⟩
  | 61 => ⟨S16777216, .i32⟩
  | 62 => ⟨S16777216, .i32⟩
  | 63 => ⟨S16777216, .i32⟩
  | 64 => ⟨S_, .i32⟩
  | 65 => ⟨S16777216, .i32⟩
  | 66 => ⟨S16777216, .i32⟩
  | 67 => ⟨S_, .i32⟩
  | 68 => ⟨S16777216, .i32⟩
  | 69 => ⟨S16777216, .i32⟩
  | 70 => ⟨S16777216, .i32⟩
  | 71 => ⟨S16777216, .i32⟩
  | 72 => ⟨S16777216, .i32⟩
  | 73 => ⟨S_, .i32⟩
  | 74 => ⟨S16777216, .i32⟩
  | 75 => ⟨S16777216, .i32⟩
  | 76 => ⟨S_, .i32⟩
  | 77 => ⟨S16777216, .i32⟩
  | 78 => ⟨S16777216, .i32⟩
  | 79 => ⟨S16777216, .i32⟩
  | 80 => ⟨S16777216, .i32⟩
  | 81 => ⟨S16777216, .i32⟩
  | 82 => ⟨S_, .i32⟩
  | 83 => ⟨S16777216, .i32⟩
  | 84 => ⟨S16777216, .i32⟩
  | 85 => ⟨S_, .i32⟩
  | 86 => ⟨S16777216, .i32⟩
  | 87 => ⟨S16777216, .i32⟩
  | 88 => ⟨S16777216, .i32⟩
  | 89 => ⟨S16777216, .i32⟩
  | 90 => ⟨S16777216, .i32⟩
  | 91 => ⟨S_, .i32⟩
  | 92 => ⟨S16777216, .i32⟩
  | 93 => ⟨S16777216, .i32⟩
  | 94 => ⟨S_, .i32⟩
  | 95 => ⟨S16777216, .i32⟩
  | 96 => ⟨S16777216, .i32⟩
  | 97 => ⟨S16777216, .i32⟩
  | 98 => ⟨S16777216, .i32⟩
  | 99 => ⟨S_, .i32⟩
  | 100 => ⟨S16777216, .i32⟩
  | 101 => ⟨S16777216, .i32⟩
  | 102 => ⟨S_, .i32⟩
  | 103 => ⟨S16777216, .i32⟩
  | 104 => ⟨S16777216, .i32⟩
  | 105 => ⟨S_, .i32⟩
  | 106 => ⟨S16777216, .i32⟩
  | 107 => ⟨S16777216, .i32⟩
  | 108 => ⟨S16777216, .i32⟩
  | 109 => ⟨S_, .i32⟩
  | 110 => ⟨S16777216, .i32⟩
  | 111 => ⟨S16777216, .i32⟩
  | 112 => ⟨S_, .i32⟩
  | 113 => ⟨S16777216, .i32⟩
  | 114 => ⟨S16777216, .i32⟩
  | 115 => ⟨S16777216, .f32⟩
  | 116 => ⟨S_, .f32⟩
  | 117 => ⟨S16777216, .f32⟩
  | 118 => ⟨S16777216, .f32⟩
  | 119 => ⟨S_, .f32⟩
  | 120 => ⟨S_, .f32⟩
  | 121 => ⟨S_, .f32⟩
  | 122 => ⟨S16777216, .f32⟩
  | 123 => ⟨S16777216, .f32⟩
  | 124 => ⟨S_, .f32⟩
  | 125 => ⟨S16777216, .f32⟩
  | 126 => ⟨S16777216, .f32⟩
  | 127 => ⟨S_, .f32⟩
  | _ => ⟨S32x8192x64, .f32⟩

abbrev hbmTy0_2 (i : Nat) : BufTy := match i % 128 with
  | 0 => ⟨S16777216, .f32⟩
  | 1 => ⟨S16777216, .f32⟩
  | 2 => ⟨S16777216, .f32⟩
  | 3 => ⟨S16777216, .f32⟩
  | 4 => ⟨S16777216, .f32⟩
  | 5 => ⟨S16777216, .f32⟩
  | 6 => ⟨S262144x64, .f32⟩
  | 7 => ⟨S64x262144, .f32⟩
  | 8 => ⟨S32x64x8192, .f32⟩
  | 9 => ⟨S64x262144, .f32⟩
  | 10 => ⟨S32x8192x64, .f32⟩
  | 11 => ⟨S262144x64, .f32⟩
  | _ => ⟨S32x8192x64, .f32⟩

abbrev hbmTy (i : Nat) : BufTy := match i / 128 with
  | 0 => hbmTy0_0 i
  | 1 => hbmTy0_1 i
  | 2 => hbmTy0_2 i
  | _ => ⟨S32x8192x64, .f32⟩

abbrev bufTy : (tb : Table) → Fin (tcTables nBuf tb) → BufTy
  | .hbm, ⟨i, _⟩ => hbmTy i
  | .local _ .vmem, ⟨0, _⟩ => ⟨S2x64x8192, .f32⟩
  | .local _ .vmem, ⟨1, _⟩ => ⟨S2x64x8192, .f32⟩
  | .local _ .vmem, ⟨2, _⟩ => ⟨S64x16384, .f32⟩
  | .local _ .vmem, ⟨3, _⟩ => ⟨S64x16384, .f32⟩
  | .local _ .vmem, ⟨4, _⟩ => ⟨S2x64x8192, .f32⟩
  | .local _ .vmem, ⟨5, _⟩ => ⟨S2x64x8192, .f32⟩
  | .local _ .vmem, ⟨6, _⟩ => ⟨S64x16384, .f32⟩
  | .local _ .vmem, ⟨7, _⟩ => ⟨S64x16384, .f32⟩
  | _, _ => ⟨S32x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_4 : Ref sig .tc := ⟨.hbm, 21, rfl⟩
abbrev main_v15 : Ref sig .tc := ⟨.hbm, 22, rfl⟩
abbrev main_v16 : Ref sig .tc := ⟨.hbm, 23, rfl⟩
abbrev main_c_5 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_6 : Ref sig .tc := ⟨.hbm, 30, rfl⟩
abbrev main_v22 : Ref sig .tc := ⟨.hbm, 31, rfl⟩
abbrev main_v23 : Ref sig .tc := ⟨.hbm, 32, rfl⟩
abbrev main_c_7 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_8 : Ref sig .tc := ⟨.hbm, 39, rfl⟩
abbrev main_v29 : Ref sig .tc := ⟨.hbm, 40, rfl⟩
abbrev main_v30 : Ref sig .tc := ⟨.hbm, 41, rfl⟩
abbrev main_c_9 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_10 : Ref sig .tc := ⟨.hbm, 47, rfl⟩
abbrev main_v35 : Ref sig .tc := ⟨.hbm, 48, rfl⟩
abbrev main_v36 : Ref sig .tc := ⟨.hbm, 49, rfl⟩
abbrev main_c_11 : Ref sig .tc := ⟨.hbm, 50, rfl⟩
abbrev main_v37 : Ref sig .tc := ⟨.hbm, 51, rfl⟩
abbrev main_v38 : Ref sig .tc := ⟨.hbm, 52, rfl⟩
abbrev main_c_12 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_13 : Ref sig .tc := ⟨.hbm, 57, rfl⟩
abbrev main_v42 : Ref sig .tc := ⟨.hbm, 58, rfl⟩
abbrev main_v43 : Ref sig .tc := ⟨.hbm, 59, rfl⟩
abbrev main_c_14 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_15 : Ref sig .tc := ⟨.hbm, 66, rfl⟩
abbrev main_v49 : Ref sig .tc := ⟨.hbm, 67, rfl⟩
abbrev main_v50 : Ref sig .tc := ⟨.hbm, 68, rfl⟩
abbrev main_c_16 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_17 : Ref sig .tc := ⟨.hbm, 75, rfl⟩
abbrev main_v56 : Ref sig .tc := ⟨.hbm, 76, rfl⟩
abbrev main_v57 : Ref sig .tc := ⟨.hbm, 77, rfl⟩
abbrev main_c_18 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_19 : Ref sig .tc := ⟨.hbm, 84, rfl⟩
abbrev main_v63 : Ref sig .tc := ⟨.hbm, 85, rfl⟩
abbrev main_v64 : Ref sig .tc := ⟨.hbm, 86, rfl⟩
abbrev main_c_20 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_21 : Ref sig .tc := ⟨.hbm, 92, rfl⟩
abbrev main_v69 : Ref sig .tc := ⟨.hbm, 93, rfl⟩
abbrev main_v70 : Ref sig .tc := ⟨.hbm, 94, rfl⟩
abbrev main_c_22 : Ref sig .tc := ⟨.hbm, 95, rfl⟩
abbrev main_v71 : Ref sig .tc := ⟨.hbm, 96, rfl⟩
abbrev main_v72 : Ref sig .tc := ⟨.hbm, 97, rfl⟩
abbrev main_c_23 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_24 : Ref sig .tc := ⟨.hbm, 102, rfl⟩
abbrev main_v76 : Ref sig .tc := ⟨.hbm, 103, rfl⟩
abbrev main_v77 : Ref sig .tc := ⟨.hbm, 104, rfl⟩
abbrev main_c_25 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_26 : Ref sig .tc := ⟨.hbm, 111, rfl⟩
abbrev main_v83 : Ref sig .tc := ⟨.hbm, 112, rfl⟩
abbrev main_v84 : Ref sig .tc := ⟨.hbm, 113, rfl⟩
abbrev main_c_27 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_c_28 : Ref sig .tc := ⟨.hbm, 120, rfl⟩
abbrev main_v90 : Ref sig .tc := ⟨.hbm, 121, rfl⟩
abbrev main_v91 : Ref sig .tc := ⟨.hbm, 122, rfl⟩
abbrev main_c_29 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_30 : Ref sig .tc := ⟨.hbm, 129, rfl⟩
abbrev main_v97 : Ref sig .tc := ⟨.hbm, 130, rfl⟩
abbrev main_v98 : Ref sig .tc := ⟨.hbm, 131, rfl⟩
abbrev main_c_31 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_c_32 : Ref sig .tc := ⟨.hbm, 137, rfl⟩
abbrev main_v103 : Ref sig .tc := ⟨.hbm, 138, rfl⟩
abbrev main_v104 : Ref sig .tc := ⟨.hbm, 139, rfl⟩
abbrev main_c_33 : Ref sig .tc := ⟨.hbm, 140, rfl⟩
abbrev main_v105 : Ref sig .tc := ⟨.hbm, 141, rfl⟩
abbrev main_v106 : Ref sig .tc := ⟨.hbm, 142, rfl⟩
abbrev main_c_34 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_c_35 : Ref sig .tc := ⟨.hbm, 147, rfl⟩
abbrev main_v110 : Ref sig .tc := ⟨.hbm, 148, rfl⟩
abbrev main_v111 : Ref sig .tc := ⟨.hbm, 149, rfl⟩
abbrev main_c_36 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_c_37 : Ref sig .tc := ⟨.hbm, 156, rfl⟩
abbrev main_v117 : Ref sig .tc := ⟨.hbm, 157, rfl⟩
abbrev main_v118 : Ref sig .tc := ⟨.hbm, 158, rfl⟩
abbrev main_c_38 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_c_39 : Ref sig .tc := ⟨.hbm, 165, rfl⟩
abbrev main_v124 : Ref sig .tc := ⟨.hbm, 166, rfl⟩
abbrev main_v125 : Ref sig .tc := ⟨.hbm, 167, rfl⟩
abbrev main_c_40 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_c_41 : Ref sig .tc := ⟨.hbm, 174, rfl⟩
abbrev main_v131 : Ref sig .tc := ⟨.hbm, 175, rfl⟩
abbrev main_v132 : Ref sig .tc := ⟨.hbm, 176, rfl⟩
abbrev main_c_42 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_c_43 : Ref sig .tc := ⟨.hbm, 182, rfl⟩
abbrev main_v137 : Ref sig .tc := ⟨.hbm, 183, rfl⟩
abbrev main_v138 : Ref sig .tc := ⟨.hbm, 184, rfl⟩
abbrev main_c_44 : Ref sig .tc := ⟨.hbm, 185, rfl⟩
abbrev main_v139 : Ref sig .tc := ⟨.hbm, 186, rfl⟩
abbrev main_v140 : Ref sig .tc := ⟨.hbm, 187, rfl⟩
abbrev main_c_45 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_c_46 : Ref sig .tc := ⟨.hbm, 192, rfl⟩
abbrev main_v144 : Ref sig .tc := ⟨.hbm, 193, rfl⟩
abbrev main_v145 : Ref sig .tc := ⟨.hbm, 194, rfl⟩
abbrev main_c_47 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_c_48 : Ref sig .tc := ⟨.hbm, 201, rfl⟩
abbrev main_v151 : Ref sig .tc := ⟨.hbm, 202, rfl⟩
abbrev main_v152 : Ref sig .tc := ⟨.hbm, 203, rfl⟩
abbrev main_c_49 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_c_50 : Ref sig .tc := ⟨.hbm, 210, rfl⟩
abbrev main_v158 : Ref sig .tc := ⟨.hbm, 211, rfl⟩
abbrev main_v159 : Ref sig .tc := ⟨.hbm, 212, rfl⟩
abbrev main_c_51 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_c_52 : Ref sig .tc := ⟨.hbm, 219, rfl⟩
abbrev main_v165 : Ref sig .tc := ⟨.hbm, 220, rfl⟩
abbrev main_v166 : Ref sig .tc := ⟨.hbm, 221, rfl⟩
abbrev main_c_53 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_c_54 : Ref sig .tc := ⟨.hbm, 227, rfl⟩
abbrev main_v171 : Ref sig .tc := ⟨.hbm, 228, rfl⟩
abbrev main_v172 : Ref sig .tc := ⟨.hbm, 229, rfl⟩
abbrev main_c_55 : Ref sig .tc := ⟨.hbm, 230, rfl⟩
abbrev main_v173 : Ref sig .tc := ⟨.hbm, 231, rfl⟩
abbrev main_v174 : Ref sig .tc := ⟨.hbm, 232, rfl⟩
abbrev main_c_56 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_c_57 : Ref sig .tc := ⟨.hbm, 237, rfl⟩
abbrev main_v178 : Ref sig .tc := ⟨.hbm, 238, rfl⟩
abbrev main_v179 : Ref sig .tc := ⟨.hbm, 239, rfl⟩
abbrev main_c_58 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_cst : Ref sig .tc := ⟨.hbm, 244, rfl⟩
abbrev main_v183 : Ref sig .tc := ⟨.hbm, 245, rfl⟩
abbrev main_v184 : Ref sig .tc := ⟨.hbm, 246, rfl⟩
abbrev main_cst_59 : Ref sig .tc := ⟨.hbm, 247, rfl⟩
abbrev main_cst_60 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_cst_61 : Ref sig .tc := ⟨.hbm, 252, rfl⟩
abbrev main_v188 : Ref sig .tc := ⟨.hbm, 253, rfl⟩
abbrev main_v189 : Ref sig .tc := ⟨.hbm, 254, rfl⟩
abbrev main_cst_62 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198_0 : Ref sig .tc := ⟨.hbm, 264, rfl⟩
abbrev main_v198_1 : Ref sig .tc := ⟨.hbm, 265, rfl⟩
abbrev main_v199 : Ref sig .tc := ⟨.hbm, 266, rfl⟩
abbrev main_v200 : Ref sig .tc := ⟨.hbm, 267, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_tau" => some ((134217728 / 13421773 : ℝ) : EReal)
  | _ => none
-- ==== ReferenceIdeal.lean ====
abbrev S32x8192x64 : Shape := ⟨3, ![32, 8192, 64]⟩
abbrev S262144x64 : Shape := ⟨2, ![262144, 64]⟩
abbrev S_ : Shape := ⟨0, ![]⟩
abbrev S1 : Shape := ⟨1, ![1]⟩
abbrev S2 : Shape := ⟨1, ![2]⟩
abbrev S1x1 : Shape := ⟨2, ![1, 1]⟩
abbrev S262144 : Shape := ⟨1, ![262144]⟩
abbrev S262144x1 : Shape := ⟨2, ![262144, 1]⟩
abbrev S262144x2 : Shape := ⟨2, ![262144, 2]⟩
abbrev S262144x2x1 : Shape := ⟨3, ![262144, 2, 1]⟩
abbrev S262144x2x2 : Shape := ⟨3, ![262144, 2, 2]⟩

abbrev nBuf : Space → Nat
  | .hbm => 366
  | .vmem => 0
  | .smem => 0
  | _ => 0

abbrev hbmTy0_0 (i : Nat) : BufTy := match i % 128 with
  | 0 => ⟨S32x8192x64, .f32⟩
  | 1 => ⟨S262144x64, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S262144x64, .i64⟩
  | 22 => ⟨S262144x64, .i64⟩
  | 23 => ⟨S_, .i64⟩
  | 24 => ⟨S262144x64, .i64⟩
  | 25 => ⟨S262144x64, .i64⟩
  | 26 => ⟨S_, .i64⟩
  | 27 => ⟨S262144x64, .i64⟩
  | 28 => ⟨S262144x64, .i64⟩
  | 29 => ⟨S262144x64, .i64⟩
  | 30 => ⟨S_, .i64⟩
  | 31 => ⟨S262144x64, .i64⟩
  | 32 => ⟨S262144x64, .i64⟩
  | 33 => ⟨S262144x64, .i32⟩
  | 34 => ⟨S262144x64, .i32⟩
  | 35 => ⟨S_, .i32⟩
  | 36 => ⟨S_, .i32⟩
  | 37 => ⟨S_, .i32⟩
  | 38 => ⟨S262144x64, .i32⟩
  | 39 => ⟨S262144x64, .i32⟩
  | 40 => ⟨S262144x64, .i32⟩
  | 41 => ⟨S262144x64, .i32⟩
  | 42 => ⟨S262144x64, .i32⟩
  | 43 => ⟨S_, .i32⟩
  | 44 => ⟨S262144x64, .i32⟩
  | 45 => ⟨S262144x64, .i32⟩
  | 46 => ⟨S_, .i32⟩
  | 47 => ⟨S262144x64, .i32⟩
  | 48 => ⟨S262144x64, .i32⟩
  | 49 => ⟨S262144x64, .i32⟩
  | 50 => ⟨S262144x64, .i32⟩
  | 51 => ⟨S262144x64, .i32⟩
  | 52 => ⟨S_, .i32⟩
  | 53 => ⟨S262144x64, .i32⟩
  | 54 => ⟨S262144x64, .i32⟩
  | 55 => ⟨S_, .i32⟩
  | 56 => ⟨S262144x64, .i32⟩
  | 57 => ⟨S262144x64, .i32⟩
  | 58 => ⟨S262144x64, .i32⟩
  | 59 => ⟨S262144x64, .i32⟩
  | 60 => ⟨S262144x64, .i32⟩
  | 61 => ⟨S_, .i32⟩
  | 62 => ⟨S262144x64, .i32⟩
  | 63 => ⟨S262144x64, .i32⟩
  | 64 => ⟨S_, .i32⟩
  | 65 => ⟨S262144x64, .i32⟩
  | 66 => ⟨S262144x64, .i32⟩
  | 67 => ⟨S262144x64, .i32⟩
  | 68 => ⟨S262144x64, .i32⟩
  | 69 => ⟨S262144x64, .i32⟩
  | 70 => ⟨S_, .i32⟩
  | 71 => ⟨S262144x64, .i32⟩
  | 72 => ⟨S262144x64, .i32⟩
  | 73 => ⟨S_, .i32⟩
  | 74 => ⟨S262144x64, .i32⟩
  | 75 => ⟨S262144x64, .i32⟩
  | 76 => ⟨S262144x64, .i32⟩
  | 77 => ⟨S262144x64, .i32⟩
  | 78 => ⟨S262144x64, .i32⟩
  | 79 => ⟨S262144x64, .i32⟩
  | 80 => ⟨S262144x64, .i32⟩
  | 81 => ⟨S262144x64, .i32⟩
  | 82 => ⟨S_, .i32⟩
  | 83 => ⟨S262144x64, .i32⟩
  | 84 => ⟨S262144x64, .i32⟩
  | 85 => ⟨S262144x64, .i32⟩
  | 86 => ⟨S_, .i32⟩
  | 87 => ⟨S262144x64, .i32⟩
  | 88 => ⟨S262144x64, .i32⟩
  | 89 => ⟨S_, .i32⟩
  | 90 => ⟨S262144x64, .i32⟩
  | 91 => ⟨S262144x64, .i32⟩
  | 92 => ⟨S262144x64, .i32⟩
  | 93 => ⟨S262144x64, .i32⟩
  | 94 => ⟨S262144x64, .i32⟩
  | 95 => ⟨S_, .i32⟩
  | 96 => ⟨S262144x64, .i32⟩
  | 97 => ⟨S262144x64, .i32⟩
  | 98 => ⟨S_, .i32⟩
  | 99 => ⟨S262144x64, .i32⟩
  | 100 => ⟨S262144x64, .i32⟩
  | 101 => ⟨S262144x64, .i32⟩
  | 102 => ⟨S262144x64, .i32⟩
  | 103 => ⟨S262144x64, .i32⟩
  | 104 => ⟨S_, .i32⟩
  | 105 => ⟨S262144x64, .i32⟩
  | 106 => ⟨S262144x64, .i32⟩
  | 107 => ⟨S_, .i32⟩
  | 108 => ⟨S262144x64, .i32⟩
  | 109 => ⟨S262144x64, .i32⟩
  | 110 => ⟨S262144x64, .i32⟩
  | 111 => ⟨S262144x64, .i32⟩
  | 112 => ⟨S262144x64, .i32⟩
  | 113 => ⟨S_, .i32⟩
  | 114 => ⟨S262144x64, .i32⟩
  | 115 => ⟨S262144x64, .i32⟩
  | 116 => ⟨S_, .i32⟩
  | 117 => ⟨S262144x64, .i32⟩
  | 118 => ⟨S262144x64, .i32⟩
  | 119 => ⟨S262144x64, .i32⟩
  | 120 => ⟨S262144x64, .i32⟩
  | 121 => ⟨S262144x64, .i32⟩
  | 122 => ⟨S262144x64, .i32⟩
  | 123 => ⟨S262144x64, .i32⟩
  | 124 => ⟨S262144x64, .i32⟩
  | 125 => ⟨S_, .i32⟩
  | 126 => ⟨S262144x64, .i32⟩
  | 127 => ⟨S262144x64, .i32⟩
  | _ => ⟨S32x8192x64, .f32⟩

abbrev hbmTy0_1 (i : Nat) : BufTy := match i % 128 with
  | 0 => ⟨S262144x64, .i32⟩
  | 1 => ⟨S_, .i32⟩
  | 2 => ⟨S262144x64, .i32⟩
  | 3 => ⟨S262144x64, .i32⟩
  | 4 => ⟨S_, .i32⟩
  | 5 => ⟨S262144x64, .i32⟩
  | 6 => ⟨S262144x64, .i32⟩
  | 7 => ⟨S262144x64, .i32⟩
  | 8 => ⟨S262144x64, .i32⟩
  | 9 => ⟨S262144x64, .i32⟩
  | 10 => ⟨S_, .i32⟩
  | 11 => ⟨S262144x64, .i32⟩
  | 12 => ⟨S262144x64, .i32⟩
  | 13 => ⟨S_, .i32⟩
  | 14 => ⟨S262144x64, .i32⟩
  | 15 => ⟨S262144x64, .i32⟩
  | 16 => ⟨S262144x64, .i32⟩
  | 17 => ⟨S262144x64, .i32⟩
  | 18 => ⟨S262144x64, .i32⟩
  | 19 => ⟨S_, .i32⟩
  | 20 => ⟨S262144x64, .i32⟩
  | 21 => ⟨S262144x64, .i32⟩
  | 22 => ⟨S_, .i32⟩
  | 23 => ⟨S262144x64, .i32⟩
  | 24 => ⟨S262144x64, .i32⟩
  | 25 => ⟨S262144x64, .i32⟩
  | 26 => ⟨S262144x64, .i32⟩
  | 27 => ⟨S262144x64, .i32⟩
  | 28 => ⟨S_, .i32⟩
  | 29 => ⟨S262144x64, .i32⟩
  | 30 => ⟨S262144x64, .i32⟩
  | 31 => ⟨S_, .i32⟩
  | 32 => ⟨S262144x64, .i32⟩
  | 33 => ⟨S262144x64, .i32⟩
  | 34 => ⟨S262144x64, .i32⟩
  | 35 => ⟨S262144x64, .i32⟩
  | 36 => ⟨S262144x64, .i32⟩
  | 37 => ⟨S262144x64, .i32⟩
  | 38 => ⟨S262144x64, .i32⟩
  | 39 => ⟨S262144x64, .i32⟩
  | 40 => ⟨S_, .i32⟩
  | 41 => ⟨S262144x64, .i32⟩
  | 42 => ⟨S262144x64, .i32⟩
  | 43 => ⟨S262144x64, .i32⟩
  | 44 => ⟨S_, .i32⟩
  | 45 => ⟨S262144x64, .i32⟩
  | 46 => ⟨S262144x64, .i32⟩
  | 47 => ⟨S_, .i32⟩
  | 48 => ⟨S262144x64, .i32⟩
  | 49 => ⟨S262144x64, .i32⟩
  | 50 => ⟨S262144x64, .i32⟩
  | 51 => ⟨S262144x64, .i32⟩
  | 52 => ⟨S262144x64, .i32⟩
  | 53 => ⟨S_, .i32⟩
  | 54 => ⟨S262144x64, .i32⟩
  | 55 => ⟨S262144x64, .i32⟩
  | 56 => ⟨S_, .i32⟩
  | 57 => ⟨S262144x64, .i32⟩
  | 58 => ⟨S262144x64, .i32⟩
  | 59 => ⟨S262144x64, .i32⟩
  | 60 => ⟨S262144x64, .i32⟩
  | 61 => ⟨S262144x64, .i32⟩
  | 62 => ⟨S_, .i32⟩
  | 63 => ⟨S262144x64, .i32⟩
  | 64 => ⟨S262144x64, .i32⟩
  | 65 => ⟨S_, .i32⟩
  | 66 => ⟨S262144x64, .i32⟩
  | 67 => ⟨S262144x64, .i32⟩
  | 68 => ⟨S262144x64, .i32⟩
  | 69 => ⟨S262144x64, .i32⟩
  | 70 => ⟨S262144x64, .i32⟩
  | 71 => ⟨S_, .i32⟩
  | 72 => ⟨S262144x64, .i32⟩
  | 73 => ⟨S262144x64, .i32⟩
  | 74 => ⟨S_, .i32⟩
  | 75 => ⟨S262144x64, .i32⟩
  | 76 => ⟨S262144x64, .i32⟩
  | 77 => ⟨S262144x64, .i32⟩
  | 78 => ⟨S262144x64, .i32⟩
  | 79 => ⟨S262144x64, .i32⟩
  | 80 => ⟨S262144x64, .i32⟩
  | 81 => ⟨S262144x64, .i32⟩
  | 82 => ⟨S262144x64, .i32⟩
  | 83 => ⟨S_, .i32⟩
  | 84 => ⟨S262144x64, .i32⟩
  | 85 => ⟨S262144x64, .i32⟩
  | 86 => ⟨S262144x64, .i32⟩
  | 87 => ⟨S_, .i32⟩
  | 88 => ⟨S262144x64, .i32⟩
  | 89 => ⟨S262144x64, .i32⟩
  | 90 => ⟨S_, .i32⟩
  | 91 => ⟨S262144x64, .i32⟩
  | 92 => ⟨S262144x64, .i32⟩
  | 93 => ⟨S262144x64, .i32⟩
  | 94 => ⟨S262144x64, .i32⟩
  | 95 => ⟨S262144x64, .i32⟩
  | 96 => ⟨S_, .i32⟩
  | 97 => ⟨S262144x64, .i32⟩
  | 98 => ⟨S262144x64, .i32⟩
  | 99 => ⟨S_, .i32⟩
  | 100 => ⟨S262144x64, .i32⟩
  | 101 => ⟨S262144x64, .i32⟩
  | 102 => ⟨S262144x64, .i32⟩
  | 103 => ⟨S262144x64, .i32⟩
  | 104 => ⟨S262144x64, .i32⟩
  | 105 => ⟨S_, .i32⟩
  | 106 => ⟨S262144x64, .i32⟩
  | 107 => ⟨S262144x64, .i32⟩
  | 108 => ⟨S_, .i32⟩
  | 109 => ⟨S262144x64, .i32⟩
  | 110 => ⟨S262144x64, .i32⟩
  | 111 => ⟨S262144x64, .i32⟩
  | 112 => ⟨S262144x64, .i32⟩
  | 113 => ⟨S262144x64, .i32⟩
  | 114 => ⟨S_, .i32⟩
  | 115 => ⟨S262144x64, .i32⟩
  | 116 => ⟨S262144x64, .i32⟩
  | 117 => ⟨S_, .i32⟩
  | 118 => ⟨S262144x64, .i32⟩
  | 119 => ⟨S262144x64, .i32⟩
  | 120 => ⟨S262144x64, .i32⟩
  | 121 => ⟨S262144x64, .i32⟩
  | 122 => ⟨S262144x64, .i32⟩
  | 123 => ⟨S262144x64, .i32⟩
  | 124 => ⟨S262144x64, .i32⟩
  | 125 => ⟨S262144x64, .i32⟩
  | 126 => ⟨S_, .i32⟩
  | 127 => ⟨S262144x64, .i32⟩
  | _ => ⟨S32x8192x64, .f32⟩

abbrev hbmTy0_2 (i : Nat) : BufTy := match i % 128 with
  | 0 => ⟨S262144x64, .i32⟩
  | 1 => ⟨S262144x64, .i32⟩
  | 2 => ⟨S_, .i32⟩
  | 3 => ⟨S262144x64, .i32⟩
  | 4 => ⟨S262144x64, .i32⟩
  | 5 => ⟨S_, .i32⟩
  | 6 => ⟨S262144x64, .i32⟩
  | 7 => ⟨S262144x64, .i32⟩
  | 8 => ⟨S262144x64, .f32⟩
  | 9 => ⟨S_, .f32⟩
  | 10 => ⟨S262144x64, .f32⟩
  | 11 => ⟨S262144x64, .f32⟩
  | 12 => ⟨S1x1, .f32⟩
  | 13 => ⟨S262144x64, .f32⟩
  | 14 => ⟨S262144x64, .f32⟩
  | 15 => ⟨S262144x64, .f32⟩
  | 16 => ⟨S262144x64, .f32⟩
  | 17 => ⟨S262144x64, .f32⟩
  | 18 => ⟨S262144x64, .f32⟩
  | 19 => ⟨S262144x64, .f32⟩
  | 20 => ⟨S262144x64, .f32⟩
  | 21 => ⟨S262144x64, .f32⟩
  | 22 => ⟨S262144x64, .f32⟩
  | 23 => ⟨S262144x64, .f32⟩
  | 24 => ⟨S_, .f32⟩
  | 25 => ⟨S262144x64, .f32⟩
  | 26 => ⟨S_, .f32⟩
  | 27 => ⟨S262144x64, .f32⟩
  | 28 => ⟨S_, .f32⟩
  | 29 => ⟨S262144x64, .f32⟩
  | 30 => ⟨S262144x64, .f32⟩
  | 31 => ⟨S_, .f32⟩
  | 32 => ⟨S262144x64, .f32⟩
  | 33 => ⟨S262144x64, .f32⟩
  | 34 => ⟨S262144x64, .f32⟩
  | 35 => ⟨S262144x64, .f32⟩
  | 36 => ⟨S_, .f32⟩
  | 37 => ⟨S262144x64, .f32⟩
  | 38 => ⟨S262144x64, .f32⟩
  | 39 => ⟨S_, .f32⟩
  | 40 => ⟨S262144, .f32⟩
  | 41 => ⟨S_, .f32⟩
  | 42 => ⟨S262144, .f32⟩
  | 43 => ⟨S262144, .f32⟩
  | 44 => ⟨S262144x1, .f32⟩
  | 45 => ⟨S262144x64, .f32⟩
  | 46 => ⟨S262144x64, .f32⟩
  | 47 => ⟨S262144x64, .f32⟩
  | 48 => ⟨S_, .f32⟩
  | 49 => ⟨S262144, .f32⟩
  | 50 => ⟨S262144x1, .f32⟩
  | 51 => ⟨S262144x64, .f32⟩
  | 52 => ⟨S262144x64, .f32⟩
  | 53 => ⟨S262144x64, .f32⟩
  | 54 => ⟨S_, .f32⟩
  | 55 => ⟨S262144x64, .f32⟩
  | 56 => ⟨S262144x64, .f32⟩
  | 57 => ⟨S_, .f32⟩
  | 58 => ⟨S262144x64, .f32⟩
  | 59 => ⟨S262144x64, .f32⟩
  | 60 => ⟨S262144x64, .f32⟩
  | 61 => ⟨S262144x64, .f32⟩
  | 62 => ⟨S_, .f32⟩
  | 63 => ⟨S262144x64, .f32⟩
  | 64 => ⟨S262144x64, .f32⟩
  | 65 => ⟨S_, .f32⟩
  | 66 => ⟨S262144, .f32⟩
  | 67 => ⟨S_, .f32⟩
  | 68 => ⟨S262144, .f32⟩
  | 69 => ⟨S262144, .f32⟩
  | 70 => ⟨S262144x1, .f32⟩
  | 71 => ⟨S262144x64, .f32⟩
  | 72 => ⟨S262144x64, .f32⟩
  | 73 => ⟨S262144x64, .f32⟩
  | 74 => ⟨S_, .f32⟩
  | 75 => ⟨S262144, .f32⟩
  | 76 => ⟨S262144x1, .f32⟩
  | 77 => ⟨S262144x64, .f32⟩
  | 78 => ⟨S262144x64, .f32⟩
  | 79 => ⟨S262144x64, .f32⟩
  | 80 => ⟨S262144x2, .f32⟩
  | 81 => ⟨S262144x2, .i32⟩
  | 82 => ⟨S262144, .i32⟩
  | 83 => ⟨S262144x1, .i32⟩
  | 84 => ⟨S_, .f32⟩
  | 85 => ⟨S262144x64, .f32⟩
  | 86 => ⟨S_, .i32⟩
  | 87 => ⟨S262144x1, .i32⟩
  | 88 => ⟨S262144x1, .i1⟩
  | 89 => ⟨S_, .i32⟩
  | 90 => ⟨S262144x1, .i32⟩
  | 91 => ⟨S262144x1, .i32⟩
  | 92 => ⟨S262144x1, .i32⟩
  | 93 => ⟨S_, .i32⟩
  | 94 => ⟨S262144x2, .i32⟩
  | 95 => ⟨S262144x2, .i1⟩
  | 96 => ⟨S_, .i32⟩
  | 97 => ⟨S262144x2, .i32⟩
  | 98 => ⟨S262144x2, .i32⟩
  | 99 => ⟨S262144x2, .i32⟩
  | 100 => ⟨S262144x2, .i32⟩
  | 101 => ⟨S262144x2x1, .i32⟩
  | 102 => ⟨S262144x2x1, .i32⟩
  | 103 => ⟨S262144x2x2, .i32⟩
  | 104 => ⟨S_, .f32⟩
  | 105 => ⟨S262144x2, .f32⟩
  | 106 => ⟨S262144x64, .f32⟩
  | 107 => ⟨S262144x64, .f32⟩
  | 108 => ⟨S262144x64, .f32⟩
  | 109 => ⟨S32x8192x64, .f32⟩
  | _ => ⟨S32x8192x64, .f32⟩

abbrev hbmTy (i : Nat) : BufTy := match i / 128 with
  | 0 => hbmTy0_0 i
  | 1 => hbmTy0_1 i
  | 2 => hbmTy0_2 i
  | _ => ⟨S32x8192x64, .f32⟩

abbrev bufTy : (tb : Table) → Fin (tcTables nBuf tb) → BufTy
  | .hbm, ⟨i, _⟩ => hbmTy i
  | _, _ => ⟨S32x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_cst_0 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_c : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_c_0 : Ref sig .tc := ⟨.hbm, 26, rfl⟩
abbrev main_call0_call0_v11 : Ref sig .tc := ⟨.hbm, 27, rfl⟩
abbrev main_call0_call0_v12 : Ref sig .tc := ⟨.hbm, 28, rfl⟩
abbrev main_call0_call0_v13 : Ref sig .tc := ⟨.hbm, 29, rfl⟩
abbrev main_call0_call0_c_1 : Ref sig .tc := ⟨.hbm, 30, rfl⟩
abbrev main_call0_call0_v14 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_v17 : Ref sig .tc := ⟨.hbm, 34, rfl⟩
abbrev main_call0_call0_call0_v0 : Ref sig .tc := ⟨.hbm, 35, rfl⟩
abbrev main_call0_call0_call0_c : Ref sig .tc := ⟨.hbm, 36, rfl⟩
abbrev main_call0_call0_call0_v1 : Ref sig .tc := ⟨.hbm, 37, rfl⟩
abbrev main_call0_call0_call0_v2 : Ref sig .tc := ⟨.hbm, 38, rfl⟩
abbrev main_call0_call0_call0_v3 : Ref sig .tc := ⟨.hbm, 39, rfl⟩
abbrev main_call0_call0_call0_v4 : Ref sig .tc := ⟨.hbm, 40, rfl⟩
abbrev main_call0_call0_call0_v5 : Ref sig .tc := ⟨.hbm, 41, rfl⟩
abbrev main_call0_call0_call0_v6 : Ref sig .tc := ⟨.hbm, 42, rfl⟩
abbrev main_call0_call0_call0_c_0 : Ref sig .tc := ⟨.hbm, 43, rfl⟩
abbrev main_call0_call0_call0_v7 : Ref sig .tc := ⟨.hbm, 44, rfl⟩
abbrev main_call0_call0_call0_v8 : Ref sig .tc := ⟨.hbm, 45, rfl⟩
abbrev main_call0_call0_call0_c_1 : Ref sig .tc := ⟨.hbm, 46, rfl⟩
abbrev main_call0_call0_call0_v9 : Ref sig .tc := ⟨.hbm, 47, rfl⟩
abbrev main_call0_call0_call0_v10 : Ref sig .tc := ⟨.hbm, 48, rfl⟩
abbrev main_call0_call0_call0_v11 : Ref sig .tc := ⟨.hbm, 49, rfl⟩
abbrev main_call0_call0_call0_v12 : Ref sig .tc := ⟨.hbm, 50, rfl⟩
abbrev main_call0_call0_call0_v13 : Ref sig .tc := ⟨.hbm, 51, rfl⟩
abbrev main_call0_call0_call0_c_2 : Ref sig .tc := ⟨.hbm, 52, rfl⟩
abbrev main_call0_call0_call0_v14 : Ref sig .tc := ⟨.hbm, 53, rfl⟩
abbrev main_call0_call0_call0_v15 : Ref sig .tc := ⟨.hbm, 54, rfl⟩
abbrev main_call0_call0_call0_c_3 : Ref sig .tc := ⟨.hbm, 55, rfl⟩
abbrev main_call0_call0_call0_v16 : Ref sig .tc := ⟨.hbm, 56, rfl⟩
abbrev main_call0_call0_call0_v17 : Ref sig .tc := ⟨.hbm, 57, rfl⟩
abbrev main_call0_call0_call0_v18 : Ref sig .tc := ⟨.hbm, 58, rfl⟩
abbrev main_call0_call0_call0_v19 : Ref sig .tc := ⟨.hbm, 59, rfl⟩
abbrev main_call0_call0_call0_v20 : Ref sig .tc := ⟨.hbm, 60, rfl⟩
abbrev main_call0_call0_call0_c_4 : Ref sig .tc := ⟨.hbm, 61, rfl⟩
abbrev main_call0_call0_call0_v21 : Ref sig .tc := ⟨.hbm, 62, rfl⟩
abbrev main_call0_call0_call0_v22 : Ref sig .tc := ⟨.hbm, 63, rfl⟩
abbrev main_call0_call0_call0_c_5 : Ref sig .tc := ⟨.hbm, 64, rfl⟩
abbrev main_call0_call0_call0_v23 : Ref sig .tc := ⟨.hbm, 65, rfl⟩
abbrev main_call0_call0_call0_v24 : Ref sig .tc := ⟨.hbm, 66, rfl⟩
abbrev main_call0_call0_call0_v25 : Ref sig .tc := ⟨.hbm, 67, rfl⟩
abbrev main_call0_call0_call0_v26 : Ref sig .tc := ⟨.hbm, 68, rfl⟩
abbrev main_call0_call0_call0_v27 : Ref sig .tc := ⟨.hbm, 69, rfl⟩
abbrev main_call0_call0_call0_c_6 : Ref sig .tc := ⟨.hbm, 70, rfl⟩
abbrev main_call0_call0_call0_v28 : Ref sig .tc := ⟨.hbm, 71, rfl⟩
abbrev main_call0_call0_call0_v29 : Ref sig .tc := ⟨.hbm, 72, rfl⟩
abbrev main_call0_call0_call0_c_7 : Ref sig .tc := ⟨.hbm, 73, rfl⟩
abbrev main_call0_call0_call0_v30 : Ref sig .tc := ⟨.hbm, 74, rfl⟩
abbrev main_call0_call0_call0_v31 : Ref sig .tc := ⟨.hbm, 75, rfl⟩
abbrev main_call0_call0_call0_v32 : Ref sig .tc := ⟨.hbm, 76, rfl⟩
abbrev main_call0_call0_call0_v33 : Ref sig .tc := ⟨.hbm, 77, rfl⟩
abbrev main_call0_call0_call0_v34 : Ref sig .tc := ⟨.hbm, 78, rfl⟩
abbrev main_call0_call0_call0_v35 : Ref sig .tc := ⟨.hbm, 79, rfl⟩
abbrev main_call0_call0_call0_v36 : Ref sig .tc := ⟨.hbm, 80, rfl⟩
abbrev main_call0_call0_call0_v37 : Ref sig .tc := ⟨.hbm, 81, rfl⟩
abbrev main_call0_call0_call0_c_8 : Ref sig .tc := ⟨.hbm, 82, rfl⟩
abbrev main_call0_call0_call0_v38 : Ref sig .tc := ⟨.hbm, 83, rfl⟩
abbrev main_call0_call0_call0_v39 : Ref sig .tc := ⟨.hbm, 84, rfl⟩
abbrev main_call0_call0_call0_v40 : Ref sig .tc := ⟨.hbm, 85, rfl⟩
abbrev main_call0_call0_call0_c_9 : Ref sig .tc := ⟨.hbm, 86, rfl⟩
abbrev main_call0_call0_call0_v41 : Ref sig .tc := ⟨.hbm, 87, rfl⟩
abbrev main_call0_call0_call0_v42 : Ref sig .tc := ⟨.hbm, 88, rfl⟩
abbrev main_call0_call0_call0_c_10 : Ref sig .tc := ⟨.hbm, 89, rfl⟩
abbrev main_call0_call0_call0_v43 : Ref sig .tc := ⟨.hbm, 90, rfl⟩
abbrev main_call0_call0_call0_v44 : Ref sig .tc := ⟨.hbm, 91, rfl⟩
abbrev main_call0_call0_call0_v45 : Ref sig .tc := ⟨.hbm, 92, rfl⟩
abbrev main_call0_call0_call0_v46 : Ref sig .tc := ⟨.hbm, 93, rfl⟩
abbrev main_call0_call0_call0_v47 : Ref sig .tc := ⟨.hbm, 94, rfl⟩
abbrev main_call0_call0_call0_c_11 : Ref sig .tc := ⟨.hbm, 95, rfl⟩
abbrev main_call0_call0_call0_v48 : Ref sig .tc := ⟨.hbm, 96, rfl⟩
abbrev main_call0_call0_call0_v49 : Ref sig .tc := ⟨.hbm, 97, rfl⟩
abbrev main_call0_call0_call0_c_12 : Ref sig .tc := ⟨.hbm, 98, rfl⟩
abbrev main_call0_call0_call0_v50 : Ref sig .tc := ⟨.hbm, 99, rfl⟩
abbrev main_call0_call0_call0_v51 : Ref sig .tc := ⟨.hbm, 100, rfl⟩
abbrev main_call0_call0_call0_v52 : Ref sig .tc := ⟨.hbm, 101, rfl⟩
abbrev main_call0_call0_call0_v53 : Ref sig .tc := ⟨.hbm, 102, rfl⟩
abbrev main_call0_call0_call0_v54 : Ref sig .tc := ⟨.hbm, 103, rfl⟩
abbrev main_call0_call0_call0_c_13 : Ref sig .tc := ⟨.hbm, 104, rfl⟩
abbrev main_call0_call0_call0_v55 : Ref sig .tc := ⟨.hbm, 105, rfl⟩
abbrev main_call0_call0_call0_v56 : Ref sig .tc := ⟨.hbm, 106, rfl⟩
abbrev main_call0_call0_call0_c_14 : Ref sig .tc := ⟨.hbm, 107, rfl⟩
abbrev main_call0_call0_call0_v57 : Ref sig .tc := ⟨.hbm, 108, rfl⟩
abbrev main_call0_call0_call0_v58 : Ref sig .tc := ⟨.hbm, 109, rfl⟩
abbrev main_call0_call0_call0_v59 : Ref sig .tc := ⟨.hbm, 110, rfl⟩
abbrev main_call0_call0_call0_v60 : Ref sig .tc := ⟨.hbm, 111, rfl⟩
abbrev main_call0_call0_call0_v61 : Ref sig .tc := ⟨.hbm, 112, rfl⟩
abbrev main_call0_call0_call0_c_15 : Ref sig .tc := ⟨.hbm, 113, rfl⟩
abbrev main_call0_call0_call0_v62 : Ref sig .tc := ⟨.hbm, 114, rfl⟩
abbrev main_call0_call0_call0_v63 : Ref sig .tc := ⟨.hbm, 115, rfl⟩
abbrev main_call0_call0_call0_c_16 : Ref sig .tc := ⟨.hbm, 116, rfl⟩
abbrev main_call0_call0_call0_v64 : Ref sig .tc := ⟨.hbm, 117, rfl⟩
abbrev main_call0_call0_call0_v65 : Ref sig .tc := ⟨.hbm, 118, rfl⟩
abbrev main_call0_call0_call0_v66 : Ref sig .tc := ⟨.hbm, 119, rfl⟩
abbrev main_call0_call0_call0_v67 : Ref sig .tc := ⟨.hbm, 120, rfl⟩
abbrev main_call0_call0_call0_v68 : Ref sig .tc := ⟨.hbm, 121, rfl⟩
abbrev main_call0_call0_call0_v69 : Ref sig .tc := ⟨.hbm, 122, rfl⟩
abbrev main_call0_call0_call0_v70 : Ref sig .tc := ⟨.hbm, 123, rfl⟩
abbrev main_call0_call0_call0_v71 : Ref sig .tc := ⟨.hbm, 124, rfl⟩
abbrev main_call0_call0_call0_c_17 : Ref sig .tc := ⟨.hbm, 125, rfl⟩
abbrev main_call0_call0_call0_v72 : Ref sig .tc := ⟨.hbm, 126, rfl⟩
abbrev main_call0_call0_call0_v73 : Ref sig .tc := ⟨.hbm, 127, rfl⟩
abbrev main_call0_call0_call0_v74 : Ref sig .tc := ⟨.hbm, 128, rfl⟩
abbrev main_call0_call0_call0_c_18 : Ref sig .tc := ⟨.hbm, 129, rfl⟩
abbrev main_call0_call0_call0_v75 : Ref sig .tc := ⟨.hbm, 130, rfl⟩
abbrev main_call0_call0_call0_v76 : Ref sig .tc := ⟨.hbm, 131, rfl⟩
abbrev main_call0_call0_call0_c_19 : Ref sig .tc := ⟨.hbm, 132, rfl⟩
abbrev main_call0_call0_call0_v77 : Ref sig .tc := ⟨.hbm, 133, rfl⟩
abbrev main_call0_call0_call0_v78 : Ref sig .tc := ⟨.hbm, 134, rfl⟩
abbrev main_call0_call0_call0_v79 : Ref sig .tc := ⟨.hbm, 135, rfl⟩
abbrev main_call0_call0_call0_v80 : Ref sig .tc := ⟨.hbm, 136, rfl⟩
abbrev main_call0_call0_call0_v81 : Ref sig .tc := ⟨.hbm, 137, rfl⟩
abbrev main_call0_call0_call0_c_20 : Ref sig .tc := ⟨.hbm, 138, rfl⟩
abbrev main_call0_call0_call0_v82 : Ref sig .tc := ⟨.hbm, 139, rfl⟩
abbrev main_call0_call0_call0_v83 : Ref sig .tc := ⟨.hbm, 140, rfl⟩
abbrev main_call0_call0_call0_c_21 : Ref sig .tc := ⟨.hbm, 141, rfl⟩
abbrev main_call0_call0_call0_v84 : Ref sig .tc := ⟨.hbm, 142, rfl⟩
abbrev main_call0_call0_call0_v85 : Ref sig .tc := ⟨.hbm, 143, rfl⟩
abbrev main_call0_call0_call0_v86 : Ref sig .tc := ⟨.hbm, 144, rfl⟩
abbrev main_call0_call0_call0_v87 : Ref sig .tc := ⟨.hbm, 145, rfl⟩
abbrev main_call0_call0_call0_v88 : Ref sig .tc := ⟨.hbm, 146, rfl⟩
abbrev main_call0_call0_call0_c_22 : Ref sig .tc := ⟨.hbm, 147, rfl⟩
abbrev main_call0_call0_call0_v89 : Ref sig .tc := ⟨.hbm, 148, rfl⟩
abbrev main_call0_call0_call0_v90 : Ref sig .tc := ⟨.hbm, 149, rfl⟩
abbrev main_call0_call0_call0_c_23 : Ref sig .tc := ⟨.hbm, 150, rfl⟩
abbrev main_call0_call0_call0_v91 : Ref sig .tc := ⟨.hbm, 151, rfl⟩
abbrev main_call0_call0_call0_v92 : Ref sig .tc := ⟨.hbm, 152, rfl⟩
abbrev main_call0_call0_call0_v93 : Ref sig .tc := ⟨.hbm, 153, rfl⟩
abbrev main_call0_call0_call0_v94 : Ref sig .tc := ⟨.hbm, 154, rfl⟩
abbrev main_call0_call0_call0_v95 : Ref sig .tc := ⟨.hbm, 155, rfl⟩
abbrev main_call0_call0_call0_c_24 : Ref sig .tc := ⟨.hbm, 156, rfl⟩
abbrev main_call0_call0_call0_v96 : Ref sig .tc := ⟨.hbm, 157, rfl⟩
abbrev main_call0_call0_call0_v97 : Ref sig .tc := ⟨.hbm, 158, rfl⟩
abbrev main_call0_call0_call0_c_25 : Ref sig .tc := ⟨.hbm, 159, rfl⟩
abbrev main_call0_call0_call0_v98 : Ref sig .tc := ⟨.hbm, 160, rfl⟩
abbrev main_call0_call0_call0_v99 : Ref sig .tc := ⟨.hbm, 161, rfl⟩
abbrev main_call0_call0_call0_v100 : Ref sig .tc := ⟨.hbm, 162, rfl⟩
abbrev main_call0_call0_call0_v101 : Ref sig .tc := ⟨.hbm, 163, rfl⟩
abbrev main_call0_call0_call0_v102 : Ref sig .tc := ⟨.hbm, 164, rfl⟩
abbrev main_call0_call0_call0_v103 : Ref sig .tc := ⟨.hbm, 165, rfl⟩
abbrev main_call0_call0_call0_v104 : Ref sig .tc := ⟨.hbm, 166, rfl⟩
abbrev main_call0_call0_call0_v105 : Ref sig .tc := ⟨.hbm, 167, rfl⟩
abbrev main_call0_call0_call0_c_26 : Ref sig .tc := ⟨.hbm, 168, rfl⟩
abbrev main_call0_call0_call0_v106 : Ref sig .tc := ⟨.hbm, 169, rfl⟩
abbrev main_call0_call0_call0_v107 : Ref sig .tc := ⟨.hbm, 170, rfl⟩
abbrev main_call0_call0_call0_v108 : Ref sig .tc := ⟨.hbm, 171, rfl⟩
abbrev main_call0_call0_call0_c_27 : Ref sig .tc := ⟨.hbm, 172, rfl⟩
abbrev main_call0_call0_call0_v109 : Ref sig .tc := ⟨.hbm, 173, rfl⟩
abbrev main_call0_call0_call0_v110 : Ref sig .tc := ⟨.hbm, 174, rfl⟩
abbrev main_call0_call0_call0_c_28 : Ref sig .tc := ⟨.hbm, 175, rfl⟩
abbrev main_call0_call0_call0_v111 : Ref sig .tc := ⟨.hbm, 176, rfl⟩
abbrev main_call0_call0_call0_v112 : Ref sig .tc := ⟨.hbm, 177, rfl⟩
abbrev main_call0_call0_call0_v113 : Ref sig .tc := ⟨.hbm, 178, rfl⟩
abbrev main_call0_call0_call0_v114 : Ref sig .tc := ⟨.hbm, 179, rfl⟩
abbrev main_call0_call0_call0_v115 : Ref sig .tc := ⟨.hbm, 180, rfl⟩
abbrev main_call0_call0_call0_c_29 : Ref sig .tc := ⟨.hbm, 181, rfl⟩
abbrev main_call0_call0_call0_v116 : Ref sig .tc := ⟨.hbm, 182, rfl⟩
abbrev main_call0_call0_call0_v117 : Ref sig .tc := ⟨.hbm, 183, rfl⟩
abbrev main_call0_call0_call0_c_30 : Ref sig .tc := ⟨.hbm, 184, rfl⟩
abbrev main_call0_call0_call0_v118 : Ref sig .tc := ⟨.hbm, 185, rfl⟩
abbrev main_call0_call0_call0_v119 : Ref sig .tc := ⟨.hbm, 186, rfl⟩
abbrev main_call0_call0_call0_v120 : Ref sig .tc := ⟨.hbm, 187, rfl⟩
abbrev main_call0_call0_call0_v121 : Ref sig .tc := ⟨.hbm, 188, rfl⟩
abbrev main_call0_call0_call0_v122 : Ref sig .tc := ⟨.hbm, 189, rfl⟩
abbrev main_call0_call0_call0_c_31 : Ref sig .tc := ⟨.hbm, 190, rfl⟩
abbrev main_call0_call0_call0_v123 : Ref sig .tc := ⟨.hbm, 191, rfl⟩
abbrev main_call0_call0_call0_v124 : Ref sig .tc := ⟨.hbm, 192, rfl⟩
abbrev main_call0_call0_call0_c_32 : Ref sig .tc := ⟨.hbm, 193, rfl⟩
abbrev main_call0_call0_call0_v125 : Ref sig .tc := ⟨.hbm, 194, rfl⟩
abbrev main_call0_call0_call0_v126 : Ref sig .tc := ⟨.hbm, 195, rfl⟩
abbrev main_call0_call0_call0_v127 : Ref sig .tc := ⟨.hbm, 196, rfl⟩
abbrev main_call0_call0_call0_v128 : Ref sig .tc := ⟨.hbm, 197, rfl⟩
abbrev main_call0_call0_call0_v129 : Ref sig .tc := ⟨.hbm, 198, rfl⟩
abbrev main_call0_call0_call0_c_33 : Ref sig .tc := ⟨.hbm, 199, rfl⟩
abbrev main_call0_call0_call0_v130 : Ref sig .tc := ⟨.hbm, 200, rfl⟩
abbrev main_call0_call0_call0_v131 : Ref sig .tc := ⟨.hbm, 201, rfl⟩
abbrev main_call0_call0_call0_c_34 : Ref sig .tc := ⟨.hbm, 202, rfl⟩
abbrev main_call0_call0_call0_v132 : Ref sig .tc := ⟨.hbm, 203, rfl⟩
abbrev main_call0_call0_call0_v133 : Ref sig .tc := ⟨.hbm, 204, rfl⟩
abbrev main_call0_call0_call0_v134 : Ref sig .tc := ⟨.hbm, 205, rfl⟩
abbrev main_call0_call0_call0_v135 : Ref sig .tc := ⟨.hbm, 206, rfl⟩
abbrev main_call0_call0_call0_v136 : Ref sig .tc := ⟨.hbm, 207, rfl⟩
abbrev main_call0_call0_call0_v137 : Ref sig .tc := ⟨.hbm, 208, rfl⟩
abbrev main_call0_call0_call0_v138 : Ref sig .tc := ⟨.hbm, 209, rfl⟩
abbrev main_call0_call0_call0_v139 : Ref sig .tc := ⟨.hbm, 210, rfl⟩
abbrev main_call0_call0_call0_c_35 : Ref sig .tc := ⟨.hbm, 211, rfl⟩
abbrev main_call0_call0_call0_v140 : Ref sig .tc := ⟨.hbm, 212, rfl⟩
abbrev main_call0_call0_call0_v141 : Ref sig .tc := ⟨.hbm, 213, rfl⟩
abbrev main_call0_call0_call0_v142 : Ref sig .tc := ⟨.hbm, 214, rfl⟩
abbrev main_call0_call0_call0_c_36 : Ref sig .tc := ⟨.hbm, 215, rfl⟩
abbrev main_call0_call0_call0_v143 : Ref sig .tc := ⟨.hbm, 216, rfl⟩
abbrev main_call0_call0_call0_v144 : Ref sig .tc := ⟨.hbm, 217, rfl⟩
abbrev main_call0_call0_call0_c_37 : Ref sig .tc := ⟨.hbm, 218, rfl⟩
abbrev main_call0_call0_call0_v145 : Ref sig .tc := ⟨.hbm, 219, rfl⟩
abbrev main_call0_call0_call0_v146 : Ref sig .tc := ⟨.hbm, 220, rfl⟩
abbrev main_call0_call0_call0_v147 : Ref sig .tc := ⟨.hbm, 221, rfl⟩
abbrev main_call0_call0_call0_v148 : Ref sig .tc := ⟨.hbm, 222, rfl⟩
abbrev main_call0_call0_call0_v149 : Ref sig .tc := ⟨.hbm, 223, rfl⟩
abbrev main_call0_call0_call0_c_38 : Ref sig .tc := ⟨.hbm, 224, rfl⟩
abbrev main_call0_call0_call0_v150 : Ref sig .tc := ⟨.hbm, 225, rfl⟩
abbrev main_call0_call0_call0_v151 : Ref sig .tc := ⟨.hbm, 226, rfl⟩
abbrev main_call0_call0_call0_c_39 : Ref sig .tc := ⟨.hbm, 227, rfl⟩
abbrev main_call0_call0_call0_v152 : Ref sig .tc := ⟨.hbm, 228, rfl⟩
abbrev main_call0_call0_call0_v153 : Ref sig .tc := ⟨.hbm, 229, rfl⟩
abbrev main_call0_call0_call0_v154 : Ref sig .tc := ⟨.hbm, 230, rfl⟩
abbrev main_call0_call0_call0_v155 : Ref sig .tc := ⟨.hbm, 231, rfl⟩
abbrev main_call0_call0_call0_v156 : Ref sig .tc := ⟨.hbm, 232, rfl⟩
abbrev main_call0_call0_call0_c_40 : Ref sig .tc := ⟨.hbm, 233, rfl⟩
abbrev main_call0_call0_call0_v157 : Ref sig .tc := ⟨.hbm, 234, rfl⟩
abbrev main_call0_call0_call0_v158 : Ref sig .tc := ⟨.hbm, 235, rfl⟩
abbrev main_call0_call0_call0_c_41 : Ref sig .tc := ⟨.hbm, 236, rfl⟩
abbrev main_call0_call0_call0_v159 : Ref sig .tc := ⟨.hbm, 237, rfl⟩
abbrev main_call0_call0_call0_v160 : Ref sig .tc := ⟨.hbm, 238, rfl⟩
abbrev main_call0_call0_call0_v161 : Ref sig .tc := ⟨.hbm, 239, rfl⟩
abbrev main_call0_call0_call0_v162 : Ref sig .tc := ⟨.hbm, 240, rfl⟩
abbrev main_call0_call0_call0_v163 : Ref sig .tc := ⟨.hbm, 241, rfl⟩
abbrev main_call0_call0_call0_c_42 : Ref sig .tc := ⟨.hbm, 242, rfl⟩
abbrev main_call0_call0_call0_v164 : Ref sig .tc := ⟨.hbm, 243, rfl⟩
abbrev main_call0_call0_call0_v165 : Ref sig .tc := ⟨.hbm, 244, rfl⟩
abbrev main_call0_call0_call0_c_43 : Ref sig .tc := ⟨.hbm, 245, rfl⟩
abbrev main_call0_call0_call0_v166 : Ref sig .tc := ⟨.hbm, 246, rfl⟩
abbrev main_call0_call0_call0_v167 : Ref sig .tc := ⟨.hbm, 247, rfl⟩
abbrev main_call0_call0_call0_v168 : Ref sig .tc := ⟨.hbm, 248, rfl⟩
abbrev main_call0_call0_call0_v169 : Ref sig .tc := ⟨.hbm, 249, rfl⟩
abbrev main_call0_call0_call0_v170 : Ref sig .tc := ⟨.hbm, 250, rfl⟩
abbrev main_call0_call0_v18_0 : Ref sig .tc := ⟨.hbm, 251, rfl⟩
abbrev main_call0_call0_call0_v172 : Ref sig .tc := ⟨.hbm, 252, rfl⟩
abbrev main_call0_call0_call0_v173 : Ref sig .tc := ⟨.hbm, 253, rfl⟩
abbrev main_call0_call0_call0_c_44 : Ref sig .tc := ⟨.hbm, 254, rfl⟩
abbrev main_call0_call0_call0_v174 : Ref sig .tc := ⟨.hbm, 255, rfl⟩
abbrev main_call0_call0_v18_1 : Ref sig .tc := ⟨.hbm, 256, rfl⟩
abbrev main_call0_call0_v19 : Ref sig .tc := ⟨.hbm, 257, rfl⟩
abbrev main_call0_call0_c_2 : Ref sig .tc := ⟨.hbm, 258, rfl⟩
abbrev main_call0_call0_v20 : Ref sig .tc := ⟨.hbm, 259, rfl⟩
abbrev main_call0_call0_v21 : Ref sig .tc := ⟨.hbm, 260, rfl⟩
abbrev main_call0_call0_c_3 : Ref sig .tc := ⟨.hbm, 261, rfl⟩
abbrev main_call0_call0_v22 : Ref sig .tc := ⟨.hbm, 262, rfl⟩
abbrev main_call0_call0_v23 : Ref sig .tc := ⟨.hbm, 263, rfl⟩
abbrev main_call0_call0_v24 : Ref sig .tc := ⟨.hbm, 264, rfl⟩
abbrev main_call0_call0_cst : Ref sig .tc := ⟨.hbm, 265, rfl⟩
abbrev main_call0_call0_v25 : Ref sig .tc := ⟨.hbm, 266, rfl⟩
abbrev main_call0_call0_v26 : Ref sig .tc := ⟨.hbm, 267, rfl⟩
abbrev main_call0_call0_v27 : Ref sig .tc := ⟨.hbm, 268, rfl⟩
abbrev main_call0_call0_v28 : Ref sig .tc := ⟨.hbm, 269, rfl⟩
abbrev main_call0_call0_v29 : Ref sig .tc := ⟨.hbm, 270, rfl⟩
abbrev main_call0_call0_v30 : Ref sig .tc := ⟨.hbm, 271, rfl⟩
abbrev main_call0_call0_v31 : Ref sig .tc := ⟨.hbm, 272, rfl⟩
abbrev main_call0_call0_v32 : Ref sig .tc := ⟨.hbm, 273, rfl⟩
abbrev main_call0_v0 : Ref sig .tc := ⟨.hbm, 274, rfl⟩
abbrev main_call0_v1 : Ref sig .tc := ⟨.hbm, 275, rfl⟩
abbrev main_call0_v2 : Ref sig .tc := ⟨.hbm, 276, rfl⟩
abbrev main_call0_v3 : Ref sig .tc := ⟨.hbm, 277, rfl⟩
abbrev main_v8 : Ref sig .tc := ⟨.hbm, 278, rfl⟩
abbrev main_v9 : Ref sig .tc := ⟨.hbm, 279, rfl⟩
abbrev main_cst : Ref sig .tc := ⟨.hbm, 280, rfl⟩
abbrev main_v10 : Ref sig .tc := ⟨.hbm, 281, rfl⟩
abbrev main_cst_2 : Ref sig .tc := ⟨.hbm, 282, rfl⟩
abbrev main_v11 : Ref sig .tc := ⟨.hbm, 283, rfl⟩
abbrev main_cst_3 : Ref sig .tc := ⟨.hbm, 284, rfl⟩
abbrev main_v12 : Ref sig .tc := ⟨.hbm, 285, rfl⟩
abbrev main_v13 : Ref sig .tc := ⟨.hbm, 286, rfl⟩
abbrev main_cst_4 : Ref sig .tc := ⟨.hbm, 287, rfl⟩
abbrev main_v14 : Ref sig .tc := ⟨.hbm, 288, rfl⟩
abbrev main_v15 : Ref sig .tc := ⟨.hbm, 289, rfl⟩
abbrev main_v16 : Ref sig .tc := ⟨.hbm, 290, rfl⟩
abbrev main_v17 : Ref sig .tc := ⟨.hbm, 291, rfl⟩
abbrev main_cst_5 : Ref sig .tc := ⟨.hbm, 292, rfl⟩
abbrev main_v18 : Ref sig .tc := ⟨.hbm, 293, rfl⟩
abbrev main_v19 : Ref sig .tc := ⟨.hbm, 294, rfl⟩
abbrev main_cst_6 : Ref sig .tc := ⟨.hbm, 295, rfl⟩
abbrev main_v20 : Ref sig .tc := ⟨.hbm, 296, rfl⟩
abbrev main_cst_7 : Ref sig .tc := ⟨.hbm, 297, rfl⟩
abbrev main_v21 : Ref sig .tc := ⟨.hbm, 298, rfl⟩
abbrev main_v22 : Ref sig .tc := ⟨.hbm, 299, rfl⟩
abbrev main_v23 : Ref sig .tc := ⟨.hbm, 300, rfl⟩
abbrev main_v24 : Ref sig .tc := ⟨.hbm, 301, rfl⟩
abbrev main_v25 : Ref sig .tc := ⟨.hbm, 302, rfl⟩
abbrev main_v26 : Ref sig .tc := ⟨.hbm, 303, rfl⟩
abbrev main_cst_8 : Ref sig .tc := ⟨.hbm, 304, rfl⟩
abbrev main_v27 : Ref sig .tc := ⟨.hbm, 305, rfl⟩
abbrev main_v28 : Ref sig .tc := ⟨.hbm, 306, rfl⟩
abbrev main_v29 : Ref sig .tc := ⟨.hbm, 307, rfl⟩
abbrev main_v30 : Ref sig .tc := ⟨.hbm, 308, rfl⟩
abbrev main_v31 : Ref sig .tc := ⟨.hbm, 309, rfl⟩
abbrev main_cst_9 : Ref sig .tc := ⟨.hbm, 310, rfl⟩
abbrev main_v32 : Ref sig .tc := ⟨.hbm, 311, rfl⟩
abbrev main_v33 : Ref sig .tc := ⟨.hbm, 312, rfl⟩
abbrev main_cst_10 : Ref sig .tc := ⟨.hbm, 313, rfl⟩
abbrev main_v34 : Ref sig .tc := ⟨.hbm, 314, rfl⟩
abbrev main_v35 : Ref sig .tc := ⟨.hbm, 315, rfl⟩
abbrev main_v36 : Ref sig .tc := ⟨.hbm, 316, rfl⟩
abbrev main_v37 : Ref sig .tc := ⟨.hbm, 317, rfl⟩
abbrev main_cst_11 : Ref sig .tc := ⟨.hbm, 318, rfl⟩
abbrev main_v38 : Ref sig .tc := ⟨.hbm, 319, rfl⟩
abbrev main_v39 : Ref sig .tc := ⟨.hbm, 320, rfl⟩
abbrev main_cst_12 : Ref sig .tc := ⟨.hbm, 321, rfl⟩
abbrev main_v40 : Ref sig .tc := ⟨.hbm, 322, rfl⟩
abbrev main_cst_13 : Ref sig .tc := ⟨.hbm, 323, rfl⟩
abbrev main_v41 : Ref sig .tc := ⟨.hbm, 324, rfl⟩
abbrev main_v42 : Ref sig .tc := ⟨.hbm, 325, rfl⟩
abbrev main_v43 : Ref sig .tc := ⟨.hbm, 326, rfl⟩
abbrev main_v44 : Ref sig .tc := ⟨.hbm, 327, rfl⟩
abbrev main_v45 : Ref sig .tc := ⟨.hbm, 328, rfl⟩
abbrev main_v46 : Ref sig .tc := ⟨.hbm, 329, rfl⟩
abbrev main_cst_14 : Ref sig .tc := ⟨.hbm, 330, rfl⟩
abbrev main_v47 : Ref sig .tc := ⟨.hbm, 331, rfl⟩
abbrev main_v48 : Ref sig .tc := ⟨.hbm, 332, rfl⟩
abbrev main_v49 : Ref sig .tc := ⟨.hbm, 333, rfl⟩
abbrev main_v50 : Ref sig .tc := ⟨.hbm, 334, rfl⟩
abbrev main_v51 : Ref sig .tc := ⟨.hbm, 335, rfl⟩
abbrev main_values : Ref sig .tc := ⟨.hbm, 336, rfl⟩
abbrev main_indices : Ref sig .tc := ⟨.hbm, 337, rfl⟩
abbrev main_v52 : Ref sig .tc := ⟨.hbm, 338, rfl⟩
abbrev main_v53 : Ref sig .tc := ⟨.hbm, 339, rfl⟩
abbrev main_cst_15 : Ref sig .tc := ⟨.hbm, 340, rfl⟩
abbrev main_v54 : Ref sig .tc := ⟨.hbm, 341, rfl⟩
abbrev main_c_16 : Ref sig .tc := ⟨.hbm, 342, rfl⟩
abbrev main_v55 : Ref sig .tc := ⟨.hbm, 343, rfl⟩
abbrev main_v56 : Ref sig .tc := ⟨.hbm, 344, rfl⟩
abbrev main_c_17 : Ref sig .tc := ⟨.hbm, 345, rfl⟩
abbrev main_v57 : Ref sig .tc := ⟨.hbm, 346, rfl⟩
abbrev main_v58 : Ref sig .tc := ⟨.hbm, 347, rfl⟩
abbrev main_v59 : Ref sig .tc := ⟨.hbm, 348, rfl⟩
abbrev main_c_18 : Ref sig .tc := ⟨.hbm, 349, rfl⟩
abbrev main_v60 : Ref sig .tc := ⟨.hbm, 350, rfl⟩
abbrev main_v61 : Ref sig .tc := ⟨.hbm, 351, rfl⟩
abbrev main_c_19 : Ref sig .tc := ⟨.hbm, 352, rfl⟩
abbrev main_v62 : Ref sig .tc := ⟨.hbm, 353, rfl⟩
abbrev main_v63 : Ref sig .tc := ⟨.hbm, 354, rfl⟩
abbrev main_v64 : Ref sig .tc := ⟨.hbm, 355, rfl⟩
abbrev main_v65 : Ref sig .tc := ⟨.hbm, 356, rfl⟩
abbrev main_v66 : Ref sig .tc := ⟨.hbm, 357, rfl⟩
abbrev main_v67 : Ref sig .tc := ⟨.hbm, 358, rfl⟩
abbrev main_v68 : Ref sig .tc := ⟨.hbm, 359, rfl⟩
abbrev main_cst_20 : Ref sig .tc := ⟨.hbm, 360, rfl⟩
abbrev main_v69 : Ref sig .tc := ⟨.hbm, 361, rfl⟩
abbrev main_v70 : Ref sig .tc := ⟨.hbm, 362, rfl⟩
abbrev main_v71 : Ref sig .tc := ⟨.hbm, 363, rfl⟩
abbrev main_v72 : Ref sig .tc := ⟨.hbm, 364, rfl⟩
abbrev main_v73 : Ref sig .tc := ⟨.hbm, 365, rfl⟩

abbrev nD : Nat := 1
abbrev τ : Topo := Topo.v7x

variable {F : FTy → Type} [FloatOps F]
-- ==== Proof.RefOps.lean ====
/- The reference's operations as lists, stretch by stretch, read off its printed program, and its run. -/
module

public import proofs.«01_k».proof.Proof.Gen.ReferenceIdeal
public import Idealize.ShloMosaic.Lib.StableHlo.RunHlo
public import Idealize.ShloMosaic.Lib.StableHlo.RunRead
public import Idealize.ShloMosaic.Lib.Claim

@[expose] public section

set_option maxRecDepth 16384

noncomputable section

namespace Cert.Proof.Ref

open Idealize.ShloMosaic Idealize.ShloMosaic.StableHlo Idealize.SL.Sem Cert.ReferenceIdeal Cert.ReferenceIdeal.Gen

variable {F : FTy → Type} [FloatOps F]

/-- A program of the reference that is a straight line of operations, with the line. -/
abbrev Line (p : Prog (TpuEff nD τ sig (Elt F) (Pipeline.Sig Λ₀ (Fin 0) fun p => (pcfgs (F := F) p).Adm) .tc) PUnit) : Type :=
  { ops : List (HloOp τ sig (Elt F)) // IsSeq p ops }

set_option maxHeartbeats 4000000

/-- The reference is one straight line. -/
def line (d : Dev nD) : Line (main (F := F) d) := by
  apply Subtype.mk
  hlo_seq

/-- Every operation of the reference, in order. -/
def ops : List (HloOp τ sig (Elt F)) := (line default).1

theorem main_eq (d : Dev nD) : IsSeq (main (F := F) d) ops := by
  obtain rfl := Subsingleton.elim d default
  exact (line _).2

theorem ops_sub : (ops (F := F)).Forall fun op => op.bufs ⊆ tcRefs τ sig := by
  unfold ops line
  simp

theorem ops_fresh : ∀ op ∈ ops (F := F), op.fresh = ∅ := by
  unfold ops line
  intro _ h
  (repeat (cases h with | head => rfl | tail _ h => ?_))
  exact nomatch h

/-- The reference's run: each buffer ends holding what the line leaves there. -/
theorem run (m : (ℓ : Loc nD τ sig) → Buf (Elt F) ℓ) (ρ : Dev nD → PrngReg) :
    θ_run (defs (F := F)) (onTc (τ := τ) main) ⟨m, fun _ => 0, ρ⟩ fun r =>
      ∀ (d : Dev nD) (b : Ref sig .tc), r.2.mem ((d.tc : Thread nD τ).loc b) = after ops (launchContents m d) (Proc.devRef .tc b) :=
  run_hlo _ _ main_eq (by decide) (by decide) ops_sub ops_fresh m ρ

end Cert.Proof.Ref

end
-- ==== Proof.Frames.lean ====
/- The frames of the three programs, and the named constant's claim. -/
module

public import proofs.«01_k».proof.Defs
public import proofs.«01_k».proof.Proof.Gen.Kernel.Frame
public import proofs.«01_k».proof.Proof.Gen.KernelIdeal.Frame
public import proofs.«01_k».proof.Proof.RefOps
public import Idealize.ShloMosaic.Lib.Quiescent
public import Idealize.ShloMosaic.Lib.StableHlo.RunRead

@[expose] public section

set_option maxRecDepth 16384

noncomputable section

namespace Cert.Proof

open Idealize.ShloMosaic Idealize.ShloMosaic.TcCoe Idealize.ShloMosaic.StableHlo Idealize.SL.Sem

theorem frame_kernel : Cert.quiescent_Kernel := fun m ρ _ => Cert.Kernel.Gen.frame m ρ

theorem frame_ideal : Cert.quiescent_KernelIdeal := fun m ρ _ => Cert.KernelIdeal.Gen.frame m ρ

/-- The reference writes its argument nowhere. -/
theorem Ref.keeps (V : Valuation Cert.ReferenceIdeal.τ Cert.ReferenceIdeal.sig (Elt Ideal)) :
    after (Ref.ops (F := Ideal)) V ↑Cert.ReferenceIdeal.main_arg0 = V ↑Cert.ReferenceIdeal.main_arg0 := by
  refine after_of_forall_not_mem _ _ ?_
  unfold Ref.ops Ref.line
  intro _ h
  (repeat (cases h with | head => exact of_decide_eq_false rfl | tail _ h => ?_))
  exact nomatch h

theorem frame_reference : Cert.quiescent_ReferenceIdeal := fun m ρ _ =>
  θ_run_mono (Ref.run (F := Ideal) m ρ) fun r h =>
    ⟨fun c => (h c _).trans (Ref.keeps _), sem_eq_zero_of_no_sems (by decide) r.2⟩

theorem named : Cert.preserves_Kernel_KernelIdeal :=
  IdealRules.named_const.statement Cert.KernelIdeal.κ "inv_tau" .f32 0x41200000#32 ((134217728 / 13421773 : ℝ) : EReal) rfl

end Cert.Proof

end
-- ==== Proof.Threefry.lean ====
/- Threefry, the counter-based random bits of both programs, as a function of one counter word: the two spellings of a
   round (the kernel's and the library's) are one function. -/
module

public import Idealize.ShloMosaic.PureOps.Ideal
public import Idealize.ShloMosaic.PureOps.Vector

@[expose] public section

namespace Cert.Proof.Threefry

open Idealize.ShloMosaic

/-- The two words that a round maps. -/
abbrev W2 : Type := BitVec 32 × BitVec 32

/-- A word turned left by `a` places, `b` being the places left over. -/
def turn (x a b : BitVec 32) : BitVec 32 := IntOp.ori (IntOp.shli .host x a) (IntOp.shrui .host x b)

/-- One round, turning by `a`. -/
def mix (a b : BitVec 32) (s : W2) : W2 :=
  (IntOp.addi s.1 s.2, IntOp.xori (IntOp.addi s.1 s.2) (turn s.2 a b))

/-- One round as the kernel writes it: the operands of the exclusive or change places. -/
def mixK (a b : BitVec 32) (s : W2) : W2 :=
  (IntOp.addi s.1 s.2, IntOp.xori (turn s.2 a b) (IntOp.addi s.1 s.2))

theorem mixK_eq (a b : BitVec 32) (s : W2) : mixK a b s = mix a b s := by
  unfold mixK mix
  rw [Prod.mk.injEq]
  exact ⟨rfl, BitVec.xor_comm _ _⟩

/-- The keys added after every fourth round. -/
def inject (k l n : BitVec 32) (s : W2) : W2 := (IntOp.addi s.1 k, IntOp.addi (IntOp.addi s.2 l) n)

/-- Four rounds with the turns of the odd groups. -/
def odd (s : W2) : W2 := mix 6#32 26#32 (mix 26#32 6#32 (mix 15#32 17#32 (mix 13#32 19#32 s)))

/-- Four rounds with the turns of the even groups. -/
def even (s : W2) : W2 := mix 24#32 8#32 (mix 16#32 16#32 (mix 29#32 3#32 (mix 17#32 15#32 s)))

/-- The odd groups as the kernel writes them. -/
def oddK (s : W2) : W2 := mixK 6#32 26#32 (mixK 26#32 6#32 (mixK 15#32 17#32 (mixK 13#32 19#32 s)))

/-- The even groups as the kernel writes them. -/
def evenK (s : W2) : W2 := mixK 24#32 8#32 (mixK 16#32 16#32 (mixK 29#32 3#32 (mixK 17#32 15#32 s)))

theorem oddK_eq (s : W2) : oddK s = odd s := by simp only [oddK, odd, mixK_eq]

theorem evenK_eq (s : W2) : evenK s = even s := by simp only [evenK, even, mixK_eq]

/-- The third key word, of the two given. -/
def third (k l : BitVec 32) : BitVec 32 := IntOp.xori (IntOp.xori k l) 466688986#32

/-- Twenty rounds on the counter `(x, y)` under the key `(k, l)`. -/
def run (k l x y : BitVec 32) : W2 :=
  inject (third k l) k 5#32 (odd (inject l (third k l) 4#32 (even (inject k l 3#32 (odd
    (inject (third k l) k 2#32 (even (inject l (third k l) 1#32 (odd (IntOp.addi x k, IntOp.addi y l))))))))))

/-- The random word at place `n` of the stream of key one. -/
def word (n : BitVec 32) : BitVec 32 := IntOp.xori (run 0#32 1#32 0#32 n).1 (run 0#32 1#32 0#32 n).2

end Cert.Proof.Threefry

end
-- ==== Proof.Noise.lean ====
/- The Gumbel number made of one random word, over the extended reals. -/
module

public import proofs.«01_k».proof.Proof.Threefry

@[expose] public section

noncomputable section

namespace Cert.Proof

open Idealize.ShloMosaic

/-- The smallest normal number, and one. -/
abbrev tiny : Ideal .f32 := FloatOps.ofBits .f32 0x00800000#32
abbrev unit1 : Ideal .f32 := FloatOps.ofBits .f32 0x3F800000#32

/-- A fraction moved into the open interval: `max(tiny, x (1 - tiny) + tiny)`. -/
def lift (x : Ideal .f32) : Ideal .f32 :=
  FloatOps.maximumf tiny (FloatOps.addf (FloatOps.mulf x (FloatOps.subf unit1 tiny)) tiny)

/-- `- log (- log u)`. -/
def gumbel (u : Ideal .f32) : Ideal .f32 :=
  FloatOps.hostNegf (FloatOps.hostUnary .log (FloatOps.hostNegf (FloatOps.hostUnary .log u)))

/-- The fraction of a random word: its upper 23 bits as the digits of a number between one and two, less one. -/
def fraction (w : BitVec 32) : Ideal .f32 :=
  FloatOps.subf (FloatOps.ofBits .f32 (IntOp.ori (IntOp.shrui .host w 9#32) 1065353216#32)) unit1

/-- The Gumbel number of a random word. -/
def noise (w : BitVec 32) : Ideal .f32 := gumbel (lift (fraction w))

end Cert.Proof

end
-- ==== Proof.KNoise.lean ====
/- The kernel program's noise: what the operations before its region leave in the noise array, at an index. -/
module

public import proofs.«01_k».proof.Proof.Gen.KernelIdeal.Frame
public import proofs.«01_k».proof.Proof.Noise
public import Idealize.ShloMosaic.Lib.StableHlo.ReadAt
public import Idealize.ShloMosaic.Lib.StableHlo.RunRead

@[expose] public section

set_option maxRecDepth 16384

noncomputable section

namespace Cert.Proof.KNoise

open Idealize.ShloMosaic Idealize.ShloMosaic.TcCoe Idealize.ShloMosaic.StableHlo Cert.KernelIdeal Cert.KernelIdeal.Gen Cert.Proof.Threefry

/-- The host operations at the places from `a` on, `n` of them. -/
abbrev seg (a n : ℕ) : List (HloOp τ sig (Elt Ideal)) := ((hostOps0 (F := Ideal)).drop a).take n

variable (V : Valuation τ sig (Elt Ideal))

theorem seg0 (i : S16777216.Idx) :
    (after (seg 0 10) V ↑main_v4 i, after (seg 0 10) V ↑main_v6 i)
      = (IntOp.addi 0#32 0#32, IntOp.addi (BitVec.ofNat 32 (i 0).val) 1#32) := by
  after_reads_simp
  rfl

theorem seg1 (i : S16777216.Idx) :
    (after (seg 10 45) V ↑main_v36 i, after (seg 10 45) V ↑main_v40 i)
      = inject 1#32 466688987#32 1#32 (oddK (V ↑main_v4 i, V ↑main_v6 i)) := by
  after_reads_simp
  rfl

theorem seg2 (i : S16777216.Idx) :
    (after (seg 55 45) V ↑main_v70 i, after (seg 55 45) V ↑main_v74 i)
      = inject 466688987#32 0#32 2#32 (evenK (V ↑main_v36 i, V ↑main_v40 i)) := by
  after_reads_simp
  rfl

theorem seg3 (i : S16777216.Idx) :
    (after (seg 100 45) V ↑main_v104 i, after (seg 100 45) V ↑main_v108 i)
      = inject 0#32 1#32 3#32 (oddK (V ↑main_v70 i, V ↑main_v74 i)) := by
  after_reads_simp
  rfl

theorem seg4 (i : S16777216.Idx) :
    (after (seg 145 45) V ↑main_v138 i, after (seg 145 45) V ↑main_v142 i)
      = inject 1#32 466688987#32 4#32 (evenK (V ↑main_v104 i, V ↑main_v108 i)) := by
  after_reads_simp
  rfl

theorem seg5 (i : S16777216.Idx) :
    (after (seg 190 45) V ↑main_v172 i, after (seg 190 45) V ↑main_v176 i)
      = inject 466688987#32 0#32 5#32 (oddK (V ↑main_v138 i, V ↑main_v142 i)) := by
  after_reads_simp
  rfl

theorem seg6 (i : S16777216.Idx) :
    after (seg 235 28) V ↑main_v195 i = noise (IntOp.xori (V ↑main_v172 i) (V ↑main_v176 i)) := by
  after_reads_simp
  rfl

theorem seg6_out (a : Fin 64) (b : Fin 262144) :
    after (seg 235 28) V ↑main_v197 (ix2 a b) = after (seg 235 28) V ↑main_v195 (ix1 ⟨b.val * 64 + a.val, by omega⟩) := by
  after_reads_at

/-- The host operations are those seven stretches. -/
theorem hostOps0_eq : hostOps0 (F := Ideal) = seg 0 10 ++ (seg 10 45 ++ (seg 55 45 ++ (seg 100 45 ++ (seg 145 45 ++ (seg 190 45 ++ seg 235 28))))) := by rfl

/-- The noise array at an index: the Gumbel number of the random word at the index's place in the row-major order. -/
theorem noise_at (a : Fin 64) (b : Fin 262144) :
    after (hostOps0 (F := Ideal)) V ↑main_v197 (ix2 a b) = noise (word (BitVec.ofNat 32 (b.val * 64 + a.val))) := by
  rw [hostOps0_eq]
  simp only [after_append]
  rw [seg6_out, seg6]
  generalize hi : (ix1 (⟨b.val * 64 + a.val, by omega⟩ : Fin 16777216) : S16777216.Idx) = i
  have h0 := seg0 V i
  have h1 := seg1 (after (seg 0 10) V) i
  have h2 := seg2 (after (seg 10 45) (after (seg 0 10) V)) i
  have h3 := seg3 (after (seg 55 45) (after (seg 10 45) (after (seg 0 10) V))) i
  have h4 := seg4 (after (seg 100 45) (after (seg 55 45) (after (seg 10 45) (after (seg 0 10) V)))) i
  have h5 := seg5 (after (seg 145 45) (after (seg 100 45) (after (seg 55 45) (after (seg 10 45) (after (seg 0 10) V))))) i
  rw [h0] at h1
  rw [h1] at h2
  rw [h2] at h3
  rw [h3] at h4
  rw [h4] at h5
  simp only [oddK_eq, evenK_eq] at h5
  have hn : (i 0).val = b.val * 64 + a.val := by rw [← hi]; rfl
  rw [hn] at h5
  have e1 := congrArg Prod.fst h5
  have e2 := congrArg Prod.snd h5
  simp only at e1 e2
  rw [e1, e2]
  rfl

end Cert.Proof.KNoise

end
-- ==== Proof.Row.lean ====
/- One row of scores, over the extended reals: the relaxed top-2 of the kernel and of the reference, and when they agree. -/
module

public import Idealize.ShloMosaic.PureOps.Ideal

@[expose] public section

noncomputable section

namespace Cert.Proof.Row

open Idealize.ShloMosaic

/-- A row of 64 extended reals. -/
abbrev R : Type := Fin 64 → EReal

/-- The temperature, and its reciprocal. -/
def temp : EReal := ((13421773 / 134217728 : ℝ) : EReal)
def inv : EReal := ((134217728 / 13421773 : ℝ) : EReal)

/-- The greatest element. -/
def peak (y : R) : EReal := Finset.univ.fold max ⊥ y

/-- The exponentials after the greatest element is taken away. -/
def weight (y : R) : R := fun i => Ideal.exp (y i - peak y)

/-- The softmax as the reference writes it, and as the kernel does. -/
def soft (y : R) : R := fun i => Ideal.div (weight y i) (∑ k, weight y k)
def softK (y : R) : R := fun i => weight y i * Ideal.div 1 (∑ k, weight y k)

/-- The logarithm of what the first step leaves, no less than `t`. -/
def left (t : EReal) (a : R) : R := fun i => Ideal.log (max (1 - a i) t)

/-- The sum of the two softmaxes, the reference's and the kernel's. -/
def khot (t : EReal) (x : R) : R := fun i =>
  soft (fun k => Ideal.div (x k) temp) i
    + soft (fun k => Ideal.div (x k + left t (soft fun k => Ideal.div (x k) temp) k) temp) i

def khotK (t : EReal) (x : R) : R := fun i =>
  softK (fun k => x k * inv) i + softK (fun k => x k * inv + left t (softK fun k => x k * inv) k * inv) i

/-- A row whose greatest element is finite. -/
structure Fin' (y : R) : Prop where
  lt : ∀ k, y k ≠ ⊤
  ne : ∃ k, y k ≠ ⊥

theorem le_peak (y : R) (k : Fin 64) : y k ≤ peak y :=
  (Finset.fold_max_le (peak y)).1 le_rfl |>.2 k (Finset.mem_univ k)

theorem peak_le {y : R} {c : EReal} (h : ∀ k, y k ≤ c) : peak y ≤ c :=
  (Finset.fold_max_le c).2 ⟨bot_le, fun k _ => h k⟩

theorem peak_eq {y : R} {c : EReal} (h : ∀ k, y k ≤ c) (k : Fin 64) (hk : y k = c) : peak y = c :=
  le_antisymm (peak_le h) (hk ▸ le_peak y k)

/-- The greatest element is one of the row's. -/
theorem exists_peak (y : R) : ∃ k, y k = peak y := by
  obtain ⟨k, _, hk⟩ := Finset.exists_max_image Finset.univ y ⟨0, Finset.mem_univ 0⟩
  exact ⟨k, (peak_eq (fun j => hk j (Finset.mem_univ j)) k rfl).symm⟩

theorem Fin'.of_peak {y : R} (h1 : peak y ≠ ⊤) (h2 : peak y ≠ ⊥) : Fin' y := by
  refine ⟨fun k h => h1 (top_le_iff.1 (h ▸ le_peak y k)), ?_⟩
  obtain ⟨k, hk⟩ := exists_peak y
  exact ⟨k, hk ▸ h2⟩

theorem Fin'.peak {y : R} (h : Fin' y) : ∃ r : ℝ, Row.peak y = r := by
  obtain ⟨k, hk⟩ := exists_peak y
  obtain ⟨j, hj⟩ := h.ne
  refine ⟨(Row.peak y).toReal, (EReal.coe_toReal (hk ▸ h.lt k) fun hb => hj ?_).symm⟩
  exact le_bot_iff.1 (hb ▸ le_peak y j)

/-- Adding reals to a row keeps its greatest element finite. -/
theorem Fin'.add {x g : R} (h : Fin' x) (hg : ∀ k, ∃ r : ℝ, g k = r) : Fin' fun k => x k + g k := by
  refine ⟨fun k => ?_, ?_⟩
  · obtain ⟨r, hr⟩ := hg k
    exact EReal.add_ne_top (h.lt k) (by rw [hr]; exact EReal.coe_ne_top r)
  · obtain ⟨k, hk⟩ := h.ne
    obtain ⟨r, hr⟩ := hg k
    exact ⟨k, fun hb => by
      rcases EReal.add_eq_bot_iff.1 hb with e | e
      · exact hk e
      · exact EReal.coe_ne_bot r (hr ▸ e)⟩

theorem div_temp (x : EReal) : Ideal.div x temp = x * inv := by
  unfold temp inv
  rw [Ideal.div_coe (by norm_num)]
  norm_num

theorem inv_nonneg : (0 : EReal) ≤ inv := by
  unfold inv; exact_mod_cast (by norm_num : (0 : ℝ) ≤ 134217728 / 13421773)

theorem add_mul_inv (x y : EReal) : (x + y) * inv = x * inv + y * inv := by
  rw [mul_comm, EReal.left_distrib_of_nonneg_of_ne_top inv_nonneg (EReal.coe_ne_top _), mul_comm inv x, mul_comm inv y]

theorem Fin'.mul_inv {x : R} (h : Fin' x) : Fin' fun k => x k * inv := by
  have hp : (0 : ℝ) < 134217728 / 13421773 := by norm_num
  have key : ∀ z : EReal, (z * inv = ⊤ → z = ⊤) ∧ (z * inv = ⊥ → z = ⊥) := by
    intro z
    unfold inv
    induction z with
    | bot => rw [EReal.bot_mul_coe_of_pos hp]; simp
    | top => rw [EReal.top_mul_coe_of_pos hp]; simp
    | coe r => rw [← EReal.coe_mul]; exact ⟨fun e => absurd e (EReal.coe_ne_top _), fun e => absurd e (EReal.coe_ne_bot _)⟩
  exact ⟨fun k e => h.lt k ((key _).1 e), h.ne.elim fun k hk => ⟨k, fun e => hk ((key _).2 e)⟩⟩

/-- On such a row the exponentials are reals that are not negative, and one of them is one. -/
theorem Fin'.weight {y : R} (h : Fin' y) : ∃ w : Fin 64 → ℝ, (∀ k, Row.weight y k = w k) ∧ (∀ k, 0 ≤ w k) ∧ ∃ k, w k = 1 := by
  obtain ⟨m, hm⟩ := h.peak
  have each : ∀ k, ∃ r : ℝ, Row.weight y k = r ∧ 0 ≤ r ∧ (y k = m → r = 1) := by
    intro k
    unfold Row.weight
    rw [hm]
    have ht := h.lt k
    generalize y k = z at ht
    induction z with
    | bot => exact ⟨0, by rw [EReal.bot_sub]; rfl, le_rfl, fun e => absurd e.symm (EReal.coe_ne_bot m)⟩
    | top => exact absurd rfl ht
    | coe r =>
      refine ⟨Real.exp (r - m), by rw [← EReal.coe_sub, Ideal.exp_coe], (Real.exp_pos _).le, fun e => ?_⟩
      rw [EReal.coe_eq_coe_iff.1 e, sub_self, Real.exp_zero]
  choose w hw using each
  obtain ⟨k, hk⟩ := exists_peak y
  exact ⟨w, fun k => (hw k).1, fun k => (hw k).2.1, k, (hw k).2.2 (hk.trans hm)⟩

/-- So their sum is a real, one or more. -/
theorem Fin'.sum {y : R} (h : Fin' y) : ∃ s : ℝ, ∑ k, Row.weight y k = s ∧ 1 ≤ s := by
  obtain ⟨w, hw, h0, k, hk⟩ := h.weight
  refine ⟨∑ k, w k, ?_, hk ▸ Finset.single_le_sum (fun i _ => h0 i) (Finset.mem_univ k)⟩
  simp only [hw]
  exact (map_sum (⟨⟨Real.toEReal, EReal.coe_zero⟩, EReal.coe_add⟩ : ℝ →+ EReal) w Finset.univ).symm

theorem Fin'.softK_eq {y : R} (h : Fin' y) : softK y = soft y := by
  obtain ⟨s, hs, h1⟩ := h.sum
  funext i
  unfold softK soft
  rw [hs, Ideal.div_coe (by linarith), Ideal.div_coe (by linarith), one_mul]

theorem Fin'.soft_real {y : R} (h : Fin' y) (i : Fin 64) : ∃ r : ℝ, soft y i = r := by
  obtain ⟨s, hs, h1⟩ := h.sum
  obtain ⟨w, hw, -⟩ := h.weight
  unfold soft
  exact ⟨w i * (1 / s), by rw [hs, hw, Ideal.div_coe (by linarith), ← EReal.coe_mul]⟩

theorem left_real {t : ℝ} (ht : 0 < t) {a : R} (ha : ∀ k, ∃ r : ℝ, a k = r) (k : Fin 64) : ∃ r : ℝ, left t a k = r := by
  obtain ⟨r, hr⟩ := ha k
  unfold left
  have e : max (1 - a k) (t : EReal) = ((max (1 - r) t : ℝ) : EReal) := by
    rw [hr, ← EReal.coe_one, ← EReal.coe_sub]; exact (EReal.coe_strictMono.monotone.map_max).symm
  rw [e, Ideal.log_coe, if_neg (not_le.2 (lt_of_lt_of_le ht (le_max_right _ _)))]
  exact ⟨_, rfl⟩

section
variable {t : ℝ} (ht : 0 < t) {x : R} (h : Fin' x)
include ht h

theorem second_fin : Fin' fun k => x k + left t (soft fun k => Ideal.div (x k) temp) k := by
  refine h.add fun k => left_real ht (fun k => ?_) k
  simp only [div_temp]
  exact h.mul_inv.soft_real k

/-- The two sums are one. -/
theorem khot_eq : khotK t x = khot t x := by
  have h2 := (second_fin ht h).mul_inv
  unfold khotK khot
  simp only [div_temp] at h2 ⊢
  simp only [add_mul_inv] at h2 ⊢
  rw [h.mul_inv.softK_eq, h2.softK_eq]

theorem khot_real (i : Fin 64) : ∃ r : ℝ, khot t x i = r := by
  obtain ⟨a, ha⟩ := h.mul_inv.soft_real i
  obtain ⟨b, hb⟩ := (second_fin ht h).mul_inv.soft_real i
  unfold khot
  simp only [div_temp] at hb ⊢
  exact ⟨a + b, by rw [ha, hb, EReal.coe_add]⟩
end

/-! ## The mask -/

/-- The kernel's mask: the greatest elements if there are two or more, else the greatest and the greatest of the others. -/
def first (k : R) : R := fun i => if k i = peak k then 1 else 0
def others (k : R) : R := fun i => if k i = peak k then ⊥ else k i
def second (k : R) : R := fun i => if others k i = peak (others k) then 1 else 0
def hard (k : R) : R := fun i => if 2 ≤ ∑ j, first k j then first k i else first k i + second k i

/-- The mask of two places. -/
def pair (p q : Fin 64) : R := fun j => if j = p ∨ j = q then 1 else 0

theorem sum_ite (p : Fin 64 → Prop) [DecidablePred p] : ∑ j, (if p j then (1 : EReal) else 0) = ((Finset.univ.filter p).card : EReal) := by
  rw [Finset.sum_boole]

/-- If exactly two elements are at least `k q`, and `p` is another place whose element is at least that, the mask is that of
    the places `p` and `q`. -/
theorem hard_eq {k : R} (hk : ∀ i, k i ≠ ⊥) {p q : Fin 64} (hpq : p ≠ q) (hle : k q ≤ k p)
    (hc : (Finset.univ.filter fun j => k q ≤ k j).card = 2) : hard k = pair p q := by
  have hset : (Finset.univ.filter fun j => k q ≤ k j) = {p, q} := by
    symm
    apply Finset.eq_of_subset_of_card_le
    · intro j hj
      rw [Finset.mem_insert, Finset.mem_singleton] at hj
      rw [Finset.mem_filter]
      rcases hj with rfl | rfl
      · exact ⟨Finset.mem_univ _, hle⟩
      · exact ⟨Finset.mem_univ _, le_rfl⟩
    · rw [hc, Finset.card_pair hpq]
  have hrest : ∀ j, j ≠ p → j ≠ q → k j < k q := by
    intro j h1 h2
    by_contra h
    have hm : j ∈ (Finset.univ.filter fun j => k q ≤ k j) := Finset.mem_filter.2 ⟨Finset.mem_univ _, not_lt.1 h⟩
    rw [hset, Finset.mem_insert, Finset.mem_singleton] at hm
    exact hm.elim h1 h2
  have hpeak : peak k = k p := peak_eq (fun j => by
    by_cases h1 : j = p
    · rw [h1]
    · by_cases h2 : j = q
      · rw [h2]; exact hle
      · exact (hrest j h1 h2).le.trans hle) p rfl
  have one_two : ¬ (2 : EReal) ≤ 1 := by
    rw [not_le]; exact_mod_cast (by norm_num : (1 : ℝ) < 2)
  rcases eq_or_lt_of_le hle with he | hlt
  · have hf : first k = pair p q := by
      funext j
      unfold first pair
      rw [hpeak]
      refine if_congr ⟨fun h => ?_, ?_⟩ rfl rfl
      · by_contra hn
        rw [not_or] at hn
        exact absurd (hrest j hn.1 hn.2) (by rw [h, he]; exact lt_irrefl _)
      · rintro (rfl | rfl)
        · rfl
        · exact he
    have hs : ∑ j, first k j = 2 := by
      rw [hf]
      unfold pair
      rw [sum_ite, show (Finset.univ.filter fun j => j = p ∨ j = q) = {p, q} by ext j; simp, Finset.card_pair hpq]
      rfl
    funext i
    unfold hard
    rw [hs, if_pos le_rfl, hf]
  · have hiff : ∀ j, k j = peak k ↔ j = p := by
      intro j
      rw [hpeak]
      refine ⟨fun h => ?_, fun h => by rw [h]⟩
      by_contra h1
      by_cases h2 : j = q
      · rw [h2] at h; exact absurd h hlt.ne
      · exact absurd h ((hrest j h1 h2).trans hlt).ne
    have hf : first k = fun j => if j = p then 1 else 0 := by
      funext j; unfold first; exact if_congr (hiff j) rfl rfl
    have ho : others k = fun j => if j = p then ⊥ else k j := by
      funext j; unfold others; exact if_congr (hiff j) rfl rfl
    have hp2 : peak (others k) = k q := by
      refine peak_eq (fun j => ?_) q (by rw [ho]; exact if_neg hpq.symm)
      rw [ho]
      dsimp only
      split
      · exact bot_le
      · next h1 =>
        by_cases h2 : j = q
        · rw [h2]
        · exact (hrest j h1 h2).le
    have hsec : second k = fun j => if j = q then 1 else 0 := by
      funext j
      unfold second
      rw [hp2, ho]
      refine if_congr ⟨fun h => ?_, fun h => ?_⟩ rfl rfl
      · dsimp only at h
        split at h
        · exact absurd h.symm (hk q)
        · next h1 =>
          by_contra h2
          exact absurd h (hrest j h1 h2).ne
      · rw [h]; exact if_neg hpq.symm
    have hs : ∑ j, first k j = 1 := by
      rw [hf, Finset.sum_ite_eq' Finset.univ p, if_pos (Finset.mem_univ p)]
    funext i
    unfold hard
    rw [hs, if_neg one_two, hf, hsec]
    unfold pair
    by_cases h1 : i = p
    · subst h1; simp [hpq]
    · by_cases h2 : i = q
      · subst h2; simp [hpq.symm]
      · simp [h1, h2]

/-- What the reference does with the mask: a real taken away and given back. -/
theorem sub_add_real (p q i : Fin 64) {k : EReal} (hk : ∃ r : ℝ, k = r) : pair p q i - k + k = pair p q i := by
  obtain ⟨r, rfl⟩ := hk
  unfold pair
  split
  · rw [← EReal.coe_one, ← EReal.coe_sub, ← EReal.coe_add, sub_add_cancel]
  · rw [← EReal.coe_zero, ← EReal.coe_sub, ← EReal.coe_add, sub_add_cancel]

end Cert.Proof.Row

end
-- ==== Proof.TopK.lean ====
/- The two greatest entries of a row as the host's top-k gives them, at an index. -/
module

public import proofs.«01_k».proof.Proof.Row
public import Idealize.ShloMosaic.PureOps.ShapeOps
public import Idealize.ShloMosaic.Lib.SortFacts
public import Idealize.ShloMosaic.Lib.Pointwise

@[expose] public section

noncomputable section

namespace Cert.Proof.TopK

open Idealize.ShloMosaic

/-- The shapes of the scores' rows and of the pairs taken from them. -/
abbrev Rows : Shape := ⟨2, ![262144, 64]⟩
abbrev Pairs : Shape := ⟨2, ![262144, 2]⟩

variable (x : Rows.Idx → Ideal .f32) (h : Rows.Slices (fun _ => 0) Pairs) (a : Fin 262144)

/-- The places along row `a` in the order of the sort. -/
def place (k : Fin 64) : Fin 64 :=
  sortedFrom (fun i j : Fin 64 => FloatOps.cmpfTotal .gt (x (ix2 a i)) (x (ix2 a j)) == 1#1) k

theorem place_ne : place x a 0 ≠ place x a 1 := fun e => by
  have := sortedFrom_injective _ e
  exact absurd this (by decide)

theorem gt_eq (u v : Ideal .f32) : (FloatOps.cmpfTotal .gt u v == 1#1) = decide ((v : EReal) < u) := by
  show (BitVec.ofBool (decide (v < u)) == 1#1) = _
  by_cases e : (v : EReal) < u
  · rw [decide_eq_true e]; rfl
  · rw [decide_eq_false e]; rfl

theorem place_le : (x (ix2 a (place x a 1)) : EReal) ≤ x (ix2 a (place x a 0)) := by
  have := sortedFrom_noInversion (fun i j : Fin 64 => FloatOps.cmpfTotal .gt (x (ix2 a i)) (x (ix2 a j)) == 1#1)
    (fun i j : Fin 64 => FloatOps.cmpfTotal .gt (x (ix2 a i)) (x (ix2 a j)) == 1#1)
    (fun i j e => by
      rw [gt_eq] at e ⊢
      exact decide_eq_false (not_lt.2 (of_decide_eq_true e).le))
    (fun i j e => e)
    (fun i j k e f => by
      rw [gt_eq] at e f ⊢
      exact decide_eq_false (not_lt.2 ((not_lt.1 (of_decide_eq_false e)).trans (not_lt.1 (of_decide_eq_false f)))))
    (0 : Fin 64) (1 : Fin 64) (by decide)
  rw [gt_eq] at this
  exact not_lt.1 (of_decide_eq_false this)

theorem along_eq (i : Rows.Idx) (hd : 1 < Rows.rank) (k : Fin 64) : i.along (⟨1, hd⟩ : Fin Rows.rank) k = ix2 (i 0) k := by
  funext d
  match d with
  | ⟨0, _⟩ => rfl
  | ⟨1, _⟩ => rfl

theorem slice_at {α : Type} (y : Rows.Idx → α) (b : Fin 2) :
    extractStridedSlice Pairs (fun _ => 0) y h (ix2 a b) = y (ix2 a (⟨b.val, by omega⟩ : Fin 64)) := by
  refine congrArg y (funext fun c => ?_)
  match c with
  | ⟨0, _⟩ => exact Fin.ext (Nat.zero_add _)
  | ⟨1, _⟩ => exact Fin.ext (Nat.zero_add _)

theorem along_ix2 (c k : Fin 64) (hd : 1 < Rows.rank) : (ix2 a c).along (⟨1, hd⟩ : Fin Rows.rank) k = ix2 a k := along_eq _ hd k

/-- The sort by the first operand, greater first, read at an index: each operand at the place that the sort takes it from. -/
theorem sort_at {β : Type} (y : Rows.Idx → β) (c : Fin 64) :
    (Host.sort2 Rows 1 (fun l r => FloatOps.cmpfTotal .gt l.1 r.1) x y).1 (ix2 a c) = x (ix2 a (place x a c))
      ∧ (Host.sort2 Rows 1 (fun l r => FloatOps.cmpfTotal .gt l.1 r.1) x y).2 (ix2 a c) = y (ix2 a (place x a c)) := by
  have hd : 1 < Rows.rank := by decide
  have hb : (fun k k' : Fin 64 => FloatOps.cmpfTotal .gt (x ((ix2 a c).along ⟨1, hd⟩ k)) (x ((ix2 a c).along ⟨1, hd⟩ k')) == 1#1)
      = fun i j : Fin 64 => FloatOps.cmpfTotal .gt (x (ix2 a i)) (x (ix2 a j)) == 1#1 := by
    funext k k'
    exact congrArg₂ (fun u v => FloatOps.cmpfTotal .gt (x u) (x v) == 1#1) (along_ix2 a c k hd) (along_ix2 a c k' hd)
  have hp := congrArg (fun f : Fin 64 → Fin 64 → Bool => sortedFrom f c) hb
  unfold Host.sort2
  rw [dif_pos hd]
  exact ⟨(congrArg (fun k : Fin 64 => x ((ix2 a c).along ⟨1, hd⟩ k)) hp).trans (congrArg x (along_ix2 a c _ hd)),
    (congrArg (fun k : Fin 64 => y ((ix2 a c).along ⟨1, hd⟩ k)) hp).trans (congrArg y (along_ix2 a c _ hd))⟩

theorem value_at (b : Fin 2) :
    (Host.topK Pairs 1 (FloatOps.cmpfTotal .gt) x h).1 (ix2 a b) = x (ix2 a (place x a ⟨b.val, by omega⟩)) := by
  unfold Host.topK
  dsimp only
  rw [slice_at, (sort_at x a _ _).1]

theorem index_at (b : Fin 2) :
    (Host.topK Pairs 1 (FloatOps.cmpfTotal .gt) x h).2 (ix2 a b) = BitVec.ofNat 32 (place x a ⟨b.val, by omega⟩).val := by
  unfold Host.topK
  dsimp only
  rw [slice_at, (sort_at x a _ _).2]
  rfl

end Cert.Proof.TopK

end
-- ==== Proof.Digits.lean ====
/- The random fractions as numbers: the digits read off a word are the word's upper 23 bits over 2^23, and the Gumbel
   numbers made of them are real. -/
module

public import proofs.«01_k».proof.Proof.Noise

@[expose] public section

noncomputable section

namespace Cert.Proof

open Idealize.ShloMosaic

/-- The upper 23 bits of a word. -/
abbrev upper (w : BitVec 32) : BitVec 32 := IntOp.shrui .host w 9#32

theorem upper_eq (w : BitVec 32) : upper w = w >>> (9#32) := rfl

theorem upper_toNat (w : BitVec 32) : (upper w).toNat = w.toNat / 512 := by
  rw [upper_eq]
  simp only [BitVec.ushiftRight_eq', BitVec.toNat_ushiftRight, BitVec.toNat_ofNat, Nat.shiftRight_eq_div_pow, Nat.reducePow, Nat.reduceMod]

theorem upper_toInt (w : BitVec 32) : (upper w).toInt = (w.toNat / 512 : ℕ) := by
  rw [BitVec.toInt_eq_toNat_of_lt (by rw [upper_toNat]; omega), upper_toNat]

/-- A positive normal pattern's number, by its exponent and its fraction. -/
theorem decode (b : BitVec 32) (ex fr : ℕ) (hs : b.extractLsb' 31 1 = 0#1) (he : (b.extractLsb' 23 8).toNat = ex)
    (hf : (b.extractLsb' 0 23).toNat = fr) (h1 : ex ≠ 255) (h0 : ex ≠ 0) :
    FloatOps.ofBits (F := Ideal) .f32 b = ((((2 ^ 23 + fr : ℕ) : ℝ) * (2 : ℝ) ^ ((ex : ℤ) - 127 - 23) : ℝ) : EReal) := by
  show Ideal.ieee 8 23 b = _
  unfold Ideal.ieee
  dsimp only
  rw [hs, he, hf, if_neg (by norm_num; exact h1), if_neg h0]
  norm_num

theorem tiny_eq : tiny = (((2 : ℝ) ^ (-126 : ℤ) : ℝ) : EReal) := by
  rw [tiny, decode _ 1 0 rfl rfl rfl (by decide) (by decide)]
  norm_num

theorem unit1_eq : unit1 = ((1 : ℝ) : EReal) := by
  rw [unit1, decode _ 127 0 rfl rfl rfl (by decide) (by decide)]
  norm_num

theorem scale_eq : FloatOps.ofBits (F := Ideal) .f32 0x34000000#32 = (((1 : ℝ) / 8388608 : ℝ) : EReal) := by
  rw [decode _ 104 0 rfl rfl rfl (by decide) (by decide)]
  norm_num

/-- A word's fraction is its upper 23 bits over 2^23, and one. -/
theorem digits (w : BitVec 32) :
    FloatOps.ofBits (F := Ideal) .f32 (IntOp.ori (upper w) 1065353216#32) = ((1 + ((w.toNat / 512 : ℕ) : ℝ) / 8388608 : ℝ) : EReal) := by
  have hn : w.toNat / 512 < 2 ^ 23 := by omega
  have ht : (IntOp.ori (upper w) 1065353216#32).toNat = 1065353216 + w.toNat / 512 := by
    have e : (1065353216 : ℕ) = 127 <<< 23 := rfl
    show (upper w ||| 1065353216#32).toNat = _
    rw [BitVec.toNat_or, upper_toNat, Nat.or_comm, BitVec.toNat_ofNat, Nat.mod_eq_of_lt (by norm_num), e, Nat.shiftLeft_add_eq_or_of_lt hn]
  rw [decode _ 127 (w.toNat / 512) ?_ ?_ ?_ (by decide) (by decide)]
  · congr 1
    push_cast
    norm_num
    ring
  · apply BitVec.eq_of_toNat_eq
    rw [BitVec.extractLsb'_toNat, ht, Nat.shiftRight_eq_div_pow]
    norm_num
    omega
  · rw [BitVec.extractLsb'_toNat, ht, Nat.shiftRight_eq_div_pow]
    norm_num
    omega
  · rw [BitVec.extractLsb'_toNat, ht, Nat.shiftRight_eq_div_pow]
    norm_num
    omega

/-- The fraction as `selected` makes it: the upper bits as a whole number, over 2^23. -/
def draw (w : BitVec 32) : Ideal .f32 :=
  FloatOps.mulf (FloatOps.sitofp .f32 (upper w)) (FloatOps.ofBits .f32 0x34000000#32)

theorem draw_real (w : BitVec 32) : draw w = ((((w.toNat / 512 : ℕ) : ℝ) / 8388608 : ℝ) : EReal) := by
  unfold draw
  rw [scale_eq]
  show (((upper w).toInt : ℝ) : EReal) * _ = _
  rw [upper_toInt, ← EReal.coe_mul, Int.cast_natCast]
  congr 1
  ring

theorem fraction_eq (w : BitVec 32) : fraction w = draw w := by
  unfold fraction
  rw [digits, unit1_eq, draw_real]
  show (_ : EReal) - _ = _
  rw [← EReal.coe_sub]
  congr 1
  ring

/-- The Gumbel number of a word is a real. -/
theorem noise_real (w : BitVec 32) : ∃ r : ℝ, noise w = r := by
  have hn : w.toNat / 512 < 2 ^ 23 := by omega
  have hx : ((w.toNat / 512 : ℕ) : ℝ) ≤ 8388607 := by
    exact_mod_cast (by omega : w.toNat / 512 ≤ 8388607)
  have h0 : (0 : ℝ) ≤ ((w.toNat / 512 : ℕ) : ℝ) := Nat.cast_nonneg _
  unfold noise
  rw [fraction_eq, draw_real]
  generalize ((w.toNat / 512 : ℕ) : ℝ) = n at hx h0
  have htp : (0 : ℝ) < (2 : ℝ) ^ (-126 : ℤ) := by positivity
  have htl : (2 : ℝ) ^ (-126 : ℤ) < 1 / 8388608 := by norm_num
  unfold lift
  rw [tiny_eq, unit1_eq]
  generalize (2 : ℝ) ^ (-126 : ℤ) = t at htp htl
  have e : FloatOps.maximumf (F := Ideal) (φ := .f32) ((t : ℝ) : EReal) (FloatOps.addf (F := Ideal) (φ := .f32) (FloatOps.mulf (F := Ideal) (φ := .f32) ((n / 8388608 : ℝ) : EReal)
      (FloatOps.subf (F := Ideal) (φ := .f32) ((1 : ℝ) : EReal) (t : EReal))) (t : EReal)) = ((max t (n / 8388608 * (1 - t) + t) : ℝ) : EReal) := by
    show max (t : EReal) (((n / 8388608 : ℝ) : EReal) * (((1 : ℝ) : EReal) - (t : EReal)) + (t : EReal)) = _
    rw [← EReal.coe_sub, ← EReal.coe_mul, ← EReal.coe_add]
    exact (EReal.coe_strictMono.monotone.map_max).symm
  rw [e]
  have hu0 : 0 < max t (n / 8388608 * (1 - t) + t) := lt_of_lt_of_le htp (le_max_left _ _)
  have hu1 : max t (n / 8388608 * (1 - t) + t) < 1 := by
    apply max_lt (by linarith)
    have h1 : n / 8388608 ≤ 8388607 / 8388608 := by apply div_le_div_of_nonneg_right hx; norm_num
    nlinarith
  generalize max t (n / 8388608 * (1 - t) + t) = u at hu0 hu1
  unfold gumbel
  show ∃ r : ℝ, -(Ideal.log (-(Ideal.log (u : EReal)))) = r
  rw [Ideal.log_coe, if_neg (not_le.2 hu0), ← EReal.coe_neg, Ideal.log_coe,
    if_neg (not_le.2 (by have := Real.log_neg hu0 hu1; linarith)), ← EReal.coe_neg]
  exact ⟨_, rfl⟩

end Cert.Proof

end
-- ==== Proof.Softmax.lean ====
/- The host's softmax along the rows, and the constants of the reference, at an index. -/
module

public import proofs.«01_k».proof.Proof.TopK
public import proofs.«01_k».proof.Proof.Digits

@[expose] public section

noncomputable section

namespace Cert.Proof.Softmax

open Idealize.ShloMosaic Cert.Proof.TopK

/-- The shapes of the numbers that belong to a row, bare and as a column. -/
abbrev Each : Shape := ⟨1, ![262144]⟩
abbrev Column : Shape := ⟨2, ![262144, 1]⟩
abbrev One : Shape := ⟨0, ![]⟩

theorem bot_eq : FloatOps.ofBits (F := Ideal) .f32 0xFF800000#32 = (⊥ : EReal) := by
  show Ideal.ieee 8 23 0xFF800000#32 = _
  unfold Ideal.ieee
  dsimp only
  rw [if_pos (by decide), if_pos (by decide), if_pos (by decide)]

theorem zero_eq : FloatOps.ofBits (F := Ideal) .f32 0#32 = (0 : EReal) := Ideal.ofBits_zero_f32

theorem temp_eq : FloatOps.ofBits (F := Ideal) .f32 0x3DCCCCCD#32 = Row.temp := by
  rw [decode _ 123 5033165 rfl rfl rfl (by decide) (by decide), Row.temp]
  norm_num

theorem one_eq : FloatOps.ofBits (F := Ideal) .f32 0x3F800000#32 = (1 : EReal) := unit1_eq

variable (x : FVec Ideal Rows .f32) (h : Rows.ReducesTo [1] Each) (h1 : 0 < One.numel)

/-- The row maximum as the host computes it. -/
theorem max_at (c : FVec Ideal One .f32) (hc : ∀ i, c i = (⊥ : EReal)) (a : Fin 262144) :
    Host.reduce FloatOps.maximumf x c h h1 (ix1 a) = Row.peak fun k => x (ix2 a k) := by
  rw [Host.reduce_eq_fold, Shape.ReducesTo.fold_fiber_r2_a1, hc]
  rfl

/-- The row sum as the host computes it. -/
theorem sum_at (c : FVec Ideal One .f32) (hc : ∀ i, c i = (0 : EReal)) (a : Fin 262144) :
    Host.reduceAdd x c h h1 (ix1 a) = ∑ k, (x (ix2 a k) : EReal) := by
  rw [Host.reduceAdd_apply, Ideal.hostReduceAdd_def, Ideal.hostReduceAdd_r2_a1, hc, zero_add]
  rfl

variable (hz : One.BroadcastsInDim Each ![]) (hcol : Each.BroadcastsInDim Column ![0]) (hrow : Column.BroadcastsInDim Rows ![0, 1])

/-- A number of each row, spread along it, read at an index. -/
theorem spread_at {α : Type} (z : Each.Idx → α) (a : Fin 262144) (b : Fin 64) :
    broadcastInDim Rows ![0, 1] hrow (broadcastInDim Column ![0] hcol z) (ix2 a b) = z (ix1 a) := by
  pointwise

/-- The exponentials, of whatever stands for the greatest elements. -/
theorem weight_of (z : FVec Ideal Each .f32) (hzz : ∀ a, z (ix1 a) = Row.peak fun k => x (ix2 a k)) (a : Fin 262144) (b : Fin 64) :
    Host.exp (subf x (broadcastInDim Rows ![0, 1] hrow (broadcastInDim Column ![0] hcol
      (maximumf (broadcastInDim Each ![] hz (constant One .f32 0xFF800000#32)) z)))) (ix2 a b)
      = Row.weight (fun k => x (ix2 a k)) b := by
  have e : Host.exp (subf x (broadcastInDim Rows ![0, 1] hrow (broadcastInDim Column ![0] hcol
      (maximumf (broadcastInDim Each ![] hz (constant One .f32 0xFF800000#32)) z)))) (ix2 a b)
      = Ideal.exp ((x (ix2 a b) : EReal) - broadcastInDim Rows ![0, 1] hrow (broadcastInDim Column ![0] hcol
      (maximumf (broadcastInDim Each ![] hz (constant One .f32 0xFF800000#32)) z)) (ix2 a b)) := rfl
  have e2 : maximumf (broadcastInDim Each ![] hz (constant One .f32 0xFF800000#32)) z (ix1 a)
      = max (FloatOps.ofBits (F := Ideal) .f32 0xFF800000#32 : EReal) (z (ix1 a)) := rfl
  rw [e, spread_at, e2, hzz, bot_eq, max_eq_right bot_le]
  rfl

/-- The quotients, of whatever stands for the exponentials and their sums. -/
theorem soft_of (y : Row.R) (w : FVec Ideal Rows .f32) (z : FVec Ideal Each .f32) (a : Fin 262144) (hw : ∀ k, w (ix2 a k) = Row.weight y k)
    (hzz : z (ix1 a) = ∑ k, (w (ix2 a k) : EReal)) (b : Fin 64) :
    Host.divf w (broadcastInDim Rows ![0, 1] hrow (broadcastInDim Column ![0] hcol z)) (ix2 a b) = Row.soft y b := by
  have e : Host.divf w (broadcastInDim Rows ![0, 1] hrow (broadcastInDim Column ![0] hcol z)) (ix2 a b)
      = Ideal.div (w (ix2 a b)) (broadcastInDim Rows ![0, 1] hrow (broadcastInDim Column ![0] hcol z) (ix2 a b)) := rfl
  rw [e, spread_at, hzz]
  simp only [hw]
  rfl

/-- The host's exponentials and its softmax. -/
def hostWeight : FVec Ideal Rows .f32 :=
  Host.exp (subf x (broadcastInDim Rows ![0, 1] hrow (broadcastInDim Column ![0] hcol
    (maximumf (broadcastInDim Each ![] hz (constant One .f32 0xFF800000#32))
      (Host.reduce FloatOps.maximumf x (constant One .f32 0xFF800000#32) h h1)))))

def host : FVec Ideal Rows .f32 :=
  Host.divf (hostWeight x h h1 hz hcol hrow) (broadcastInDim Rows ![0, 1] hrow (broadcastInDim Column ![0] hcol
    (Host.reduceAdd (hostWeight x h h1 hz hcol hrow) (constant One .f32 0#32) h h1)))

theorem host_at (a : Fin 262144) (b : Fin 64) : host x h h1 hz hcol hrow (ix2 a b) = Row.soft (fun k => x (ix2 a k)) b :=
  soft_of hcol hrow (fun k => x (ix2 a k)) _ _ a
    (fun k => weight_of x hz hcol hrow _ (fun a => max_at x h h1 (constant One .f32 0xFF800000#32) (fun _ => bot_eq) a) a k)
    (sum_at _ h h1 (constant One .f32 0#32) (fun _ => zero_eq) a) b

end Cert.Proof.Softmax

end
-- ==== Proof.KCol.lean ====
/- One block of the kernel, column by column: the sum of the two softmaxes and the mask, at an index. -/
module

public import proofs.«01_k».proof.Proof.Gen.KernelIdeal.Skeleton
public import proofs.«01_k».proof.Proof.Softmax

@[expose] public section

set_option maxRecDepth 16384

noncomputable section

namespace Cert.Proof.KCol

open Idealize.ShloMosaic Cert.KernelIdeal Cert.KernelIdeal.Gen

/-- The blocks. -/
abbrev B : Type := FVec Ideal S64x8192 .f32

/-- The greatest element and the sum of each column, as the kernel computes them. -/
def colMax (y : B) : FVec Ideal S8192 .f32 := multiReduction .maximumf [0] S8192 y 0xFF800000#32 reduces_S64x8192_S8192 (.inl rfl) rfl
def colSum (y : B) : FVec Ideal S8192 .f32 := multiReduction .add [0] S8192 y 0x00000000#32 reduces_S64x8192_S8192 (.inl rfl) rfl

theorem colMax_at (y : B) (n : Fin 8192) : colMax y (ix1 n) = Row.peak fun k => y (ix2 k n) := by
  unfold colMax
  refine (multiReduction_maximumf_eq_fold y _ _ _ _ _).trans ?_
  rw [Shape.Reduces.fold_fiber_r2_a0, Softmax.bot_eq]
  rfl

theorem colSum_at (y : B) (n : Fin 8192) : colSum y (ix1 n) = ∑ k, (y (ix2 k n) : EReal) := by
  unfold colSum
  refine (multiReduction_add_apply y _ _ _ _ _).trans ?_
  rw [Ideal.reduceAdd_def, Ideal.reduceAdd_r2_a0]
  rfl

/-- A number of each column as a row of the block, and spread down it. -/
theorem line_at {α : Type} (z : S8192.Idx → α) (n : Fin 8192) : shapeCast S1x8192 z shapeCasts_S8192_S1x8192 (ix2 (0 : Fin 1) n) = z (ix1 n) := by
  pointwise

theorem down_at {α : Type} (z : S1x8192.Idx → α) (k : Fin 64) (n : Fin 8192) :
    broadcastTo S64x8192 z broadcasts_S1x8192_S64x8192 (ix2 k n) = z (ix2 (0 : Fin 1) n) := by
  pointwise

/-- The kernel's softmax down the columns. -/
def colWeight (y : B) : B := exp (subf y (broadcastTo S64x8192 (shapeCast S1x8192 (colMax y) shapeCasts_S8192_S1x8192) broadcasts_S1x8192_S64x8192))
def colScale (w : B) : B :=
  mulf w (broadcastTo S64x8192 (divf (broadcast S1x8192 (Scalar.ofBits .f32 0x3F800000#32 : Ideal .f32)) (shapeCast S1x8192 (colSum w) shapeCasts_S8192_S1x8192)) broadcasts_S1x8192_S64x8192)
def colSoft (y : B) : B := colScale (colWeight y)

theorem colWeight_at (y : B) (k : Fin 64) (n : Fin 8192) : colWeight y (ix2 k n) = Row.weight (fun k => y (ix2 k n)) k := by
  have e : colWeight y (ix2 k n) = Ideal.exp ((y (ix2 k n) : EReal) - broadcastTo S64x8192 (shapeCast S1x8192 (colMax y) shapeCasts_S8192_S1x8192) broadcasts_S1x8192_S64x8192 (ix2 k n)) := rfl
  rw [e, down_at, line_at, colMax_at]
  rfl

theorem colScale_at (w : B) (k : Fin 64) (n : Fin 8192) :
    colScale w (ix2 k n) = (w (ix2 k n) : EReal) * Ideal.div 1 (∑ k, (w (ix2 k n) : EReal)) := by
  have e : colScale w (ix2 k n) = (w (ix2 k n) : EReal) * broadcastTo S64x8192 (divf (broadcast S1x8192 (Scalar.ofBits .f32 0x3F800000#32 : Ideal .f32)) (shapeCast S1x8192 (colSum w) shapeCasts_S8192_S1x8192)) broadcasts_S1x8192_S64x8192 (ix2 k n) := rfl
  have e2 : divf (broadcast S1x8192 (Scalar.ofBits .f32 0x3F800000#32 : Ideal .f32)) (shapeCast S1x8192 (colSum w) shapeCasts_S8192_S1x8192) (ix2 (0 : Fin 1) n)
      = Ideal.div (FloatOps.ofBits (F := Ideal) .f32 0x3F800000#32) (shapeCast S1x8192 (colSum w) shapeCasts_S8192_S1x8192 (ix2 (0 : Fin 1) n)) := rfl
  rw [e, down_at, e2, line_at, colSum_at, Softmax.one_eq]

theorem colSoft_at (y : B) (k : Fin 64) (n : Fin 8192) : colSoft y (ix2 k n) = Row.softK (fun k => y (ix2 k n)) k := by
  unfold colSoft
  rw [colScale_at]
  simp only [colWeight_at]
  rfl

/-- The reciprocal of the temperature. -/
theorem inv_eq : Named.named (F := Ideal) Cert.KernelIdeal.κ "inv_tau" (φ := .f32) 0x41200000#32 = Row.inv :=
  IdealRules.named_const.ideal_named_scalar _ _ _ _ rfl

/-- The scores of the second step, and the sum of the two softmaxes. -/
def colRest (y : B) : B :=
  addf y (mulf (log (maximumf (subf (broadcast S64x8192 (Scalar.ofBits .f32 0x3F800000#32 : Ideal .f32)) (colSoft y))
    (broadcast S64x8192 (Scalar.ofBits .f32 0x00800000#32 : Ideal .f32)))) (broadcast S64x8192 (Named.named (F := Ideal) Cert.KernelIdeal.κ "inv_tau" (φ := .f32) 0x41200000#32)))
def colKhot (y : B) : B := addf (colSoft y) (colSoft (colRest y))

theorem colRest_at (y : B) (k : Fin 64) (n : Fin 8192) :
    colRest y (ix2 k n) = (y (ix2 k n) : EReal) + Row.left tiny (Row.softK fun k => y (ix2 k n)) k * Row.inv := by
  have e : colRest y (ix2 k n) = (y (ix2 k n) : EReal) + Ideal.log (max ((FloatOps.ofBits (F := Ideal) .f32 0x3F800000#32 : EReal) - colSoft y (ix2 k n)) tiny)
      * Named.named (F := Ideal) Cert.KernelIdeal.κ "inv_tau" (φ := .f32) 0x41200000#32 := rfl
  rw [e, colSoft_at, Softmax.one_eq, inv_eq]
  rfl

/-- Scores and noise, scaled. -/
def scaled (x : Vec Ideal S1x64x8192 .f32) (g : Vec Ideal S64x8192 .f32) : B :=
  mulf (addf (shapeCast S64x8192 x shapeCasts_S1x64x8192_S64x8192) (shapeCast S64x8192 g shapeCasts_S64x8192_S64x8192))
    (broadcast S64x8192 (Named.named (F := Ideal) Cert.KernelIdeal.κ "inv_tau" (φ := .f32) 0x41200000#32))

theorem scaled_at (x : Vec Ideal S1x64x8192 .f32) (g : Vec Ideal S64x8192 .f32) (k : Fin 64) (n : Fin 8192) :
    scaled x g (ix2 k n) = ((x (ix3 (0 : Fin 1) k n) : EReal) + (g (ix2 k n) : EReal)) * Row.inv := by
  have e : scaled x g (ix2 k n) = ((shapeCast S64x8192 x shapeCasts_S1x64x8192_S64x8192 (ix2 k n) : EReal) + (shapeCast S64x8192 g shapeCasts_S64x8192_S64x8192 (ix2 k n) : EReal))
      * Named.named (F := Ideal) Cert.KernelIdeal.κ "inv_tau" (φ := .f32) 0x41200000#32 := rfl
  have ex : shapeCast S64x8192 x shapeCasts_S1x64x8192_S64x8192 (ix2 k n) = x (ix3 (0 : Fin 1) k n) := by pointwise
  have eg : shapeCast S64x8192 g shapeCasts_S64x8192_S64x8192 (ix2 k n) = g (ix2 k n) := by pointwise
  rw [e, ex, eg, inv_eq]

theorem colKhot_at (x : Vec Ideal S1x64x8192 .f32) (g : Vec Ideal S64x8192 .f32) (k : Fin 64) (n : Fin 8192) :
    colKhot (scaled x g) (ix2 k n) = Row.khotK tiny (fun k => (x (ix3 (0 : Fin 1) k n) : EReal) + (g (ix2 k n) : EReal)) k := by
  have e : colKhot (scaled x g) (ix2 k n) = (colSoft (scaled x g) (ix2 k n) : EReal) + colSoft (colRest (scaled x g)) (ix2 k n) := rfl
  rw [e, colSoft_at, colSoft_at]
  simp only [colRest_at, scaled_at]
  rfl

/-! ## The mask -/

/-- Ones where the block is its column's greatest. -/
def isMax (y : B) : IVec S64x8192 1 := cmpf .oeq y (broadcastTo S64x8192 (shapeCast S1x8192 (colMax y) shapeCasts_S8192_S1x8192) broadcasts_S1x8192_S64x8192)
def ones (c : IVec S64x8192 1) : B :=
  select c (broadcast S64x8192 (Scalar.ofBits .f32 0x3F800000#32 : Ideal .f32)) (broadcast S64x8192 (Scalar.ofBits .f32 0x00000000#32 : Ideal .f32))
def colOthers (y : B) : B := select (isMax y) (broadcast S64x8192 (Scalar.ofBits .f32 0xFF800000#32 : Ideal .f32)) y
def many (f : B) : IVec S1x8192 1 :=
  cmpf .oge (shapeCast S1x8192 (colSum f) shapeCasts_S8192_S1x8192) (broadcast S1x8192 (Scalar.ofBits .f32 0x40000000#32 : Ideal .f32))
def colHard (y : B) : B :=
  select (broadcastTo S64x8192 (shapeCast S1x8192 (many (ones (isMax y))) shapeCasts_S1x8192_S1x8192) broadcasts_S1x8192_S64x8192)
    (ones (isMax y)) (addf (ones (isMax y)) (ones (isMax (colOthers y))))

theorem two_eq : FloatOps.ofBits (F := Ideal) .f32 0x40000000#32 = (2 : EReal) := by
  rw [decode _ 128 0 rfl rfl rfl (by decide) (by decide)]
  norm_num
  rfl

theorem pick {α : Type} (p : Prop) [Decidable p] (a b : α) : Scalar.select (BitVec.ofBool (decide p)) a b = if p then a else b := by
  by_cases h : p
  · rw [decide_eq_true h, if_pos h]; rfl
  · rw [decide_eq_false h, if_neg h]; rfl

theorem isMax_at (y : B) (k : Fin 64) (n : Fin 8192) :
    isMax y (ix2 k n) = BitVec.ofBool (decide ((y (ix2 k n) : EReal) = Row.peak fun k => y (ix2 k n))) := by
  have e : isMax y (ix2 k n) = BitVec.ofBool (decide ((y (ix2 k n) : EReal) = broadcastTo S64x8192 (shapeCast S1x8192 (colMax y) shapeCasts_S8192_S1x8192) broadcasts_S1x8192_S64x8192 (ix2 k n))) := rfl
  rw [e, down_at, line_at, colMax_at]

theorem first_at (y : B) (k : Fin 64) (n : Fin 8192) : ones (isMax y) (ix2 k n) = Row.first (fun k => y (ix2 k n)) k := by
  have e : ones (isMax y) (ix2 k n) = Scalar.select (isMax y (ix2 k n)) (FloatOps.ofBits (F := Ideal) .f32 0x3F800000#32) (FloatOps.ofBits (F := Ideal) .f32 0#32) := rfl
  rw [e, isMax_at, pick, Softmax.one_eq, Softmax.zero_eq]
  rfl

theorem others_at (y : B) (k : Fin 64) (n : Fin 8192) : colOthers y (ix2 k n) = Row.others (fun k => y (ix2 k n)) k := by
  have e : colOthers y (ix2 k n) = Scalar.select (isMax y (ix2 k n)) (FloatOps.ofBits (F := Ideal) .f32 0xFF800000#32) (y (ix2 k n)) := rfl
  rw [e, isMax_at, pick, Softmax.bot_eq]
  rfl

theorem colHard_at (y : B) (k : Fin 64) (n : Fin 8192) : colHard y (ix2 k n) = Row.hard (fun k => y (ix2 k n)) k := by
  have e : colHard y (ix2 k n) = Scalar.select (broadcastTo S64x8192 (shapeCast S1x8192 (many (ones (isMax y))) shapeCasts_S1x8192_S1x8192) broadcasts_S1x8192_S64x8192 (ix2 k n))
      (ones (isMax y) (ix2 k n)) ((ones (isMax y) (ix2 k n) : EReal) + ones (isMax (colOthers y)) (ix2 k n)) := rfl
  have ec : ∀ z : IVec S1x8192 1, shapeCast S1x8192 z shapeCasts_S1x8192_S1x8192 (ix2 (0 : Fin 1) n) = z (ix2 (0 : Fin 1) n) := fun z => by pointwise
  have em : ∀ f : B, many f (ix2 (0 : Fin 1) n) = BitVec.ofBool (decide ((FloatOps.ofBits (F := Ideal) .f32 0x40000000#32 : EReal) ≤ shapeCast S1x8192 (colSum f) shapeCasts_S8192_S1x8192 (ix2 (0 : Fin 1) n))) := fun f => rfl
  rw [e, down_at, ec, em, line_at, colSum_at, pick, two_eq, first_at, first_at]
  simp only [first_at, others_at]
  rfl

/-! ## The stored blocks -/

theorem pay2_eq (x : Vec Ideal S1x64x8192 .f32) (g : Vec Ideal S64x8192 .f32) : k0_pay2 x g = colKhot (scaled x g) := rfl

theorem pay4_eq (x : Vec Ideal S1x64x8192 .f32) (g : Vec Ideal S64x8192 .f32) :
    k0_pay4 (k0_pay2 x g) (k0_pay3 x g) (Scalar.ofBits .f32 0x3F800000#32) = shapeCast S1x64x8192 (colHard (k0_pay2 x g)) shapeCasts_S64x8192_S1x64x8192 := rfl

theorem pay8_eq (x : Vec Ideal S1x64x8192 .f32) (g : Vec Ideal S64x8192 .f32) :
    k0_pay8 (k0_pay5 x g) (k0_pay6 x g) (k0_pay7 x g) = colKhot (scaled x g) := rfl

theorem pay1_eq (a : B) (b : B) (c : FVec Ideal S1x8192 .f32) :
    k0_pay1 (k0_pay10 a b c) (k0_pay11 a b c) (k0_pay12 a b c) = shapeCast S1x64x8192 (colHard (k0_pay8 a b c)) shapeCasts_S64x8192_S1x64x8192 := rfl

theorem lift_at (y : B) (k : Fin 64) (n : Fin 8192) :
    shapeCast S1x64x8192 y shapeCasts_S64x8192_S1x64x8192 (ix3 (0 : Fin 1) k n) = y (ix2 k n) := by
  pointwise

end Cert.Proof.KCol

end
-- ==== Proof.KBlock.lean ====
/- What one grid point leaves in the two output blocks, at an index. -/
module

public import proofs.«01_k».proof.Proof.Gen.KernelIdeal.Frame
public import proofs.«01_k».proof.Proof.KCol
public import Idealize.ShloMosaic.Lib.Pipeline.ValueKit

@[expose] public section

set_option maxRecDepth 16384

noncomputable section

namespace Cert.Proof.KBlock

open Idealize.ShloMosaic Cert.KernelIdeal Cert.KernelIdeal.Gen

variable (x0 : Vec Ideal S2x64x8192 .f32) (x1 : Vec Ideal S64x16384 .f32)

/-- The scores with the noise of batch `j` of the block, in column `n`. -/
def col (j : Fin 2) (n : Fin 8192) : Row.R := fun k => (x0 (ix3 j k n) : EReal) + (x1 (ix2 k (⟨j.val * 8192 + n.val, by omega⟩ : Fin 16384)) : EReal)

theorem col0 (n : Fin 8192) : (fun k : Fin 64 => (View.ld x0 r0_0 (ix3 (0 : Fin 1) k n) : EReal) + (View.ld x1 r0_1 (ix2 k n) : EReal)) = col x0 x1 0 n := by
  funext k
  pointwise
  refine congrArg (fun z : Fin 16384 => (x0 (ix3 0 k n) : EReal) + x1 (ix2 k z)) (Fin.ext ?_)
  show n.val = 0 * 8192 + n.val
  omega

theorem col1 (n : Fin 8192) : (fun k : Fin 64 => (View.ld x0 r0_2 (ix3 (0 : Fin 1) k n) : EReal) + (View.ld x1 r0_3 (ix2 k n) : EReal)) = col x0 x1 1 n := by
  funext k
  pointwise
  refine congrArg (fun z : Fin 16384 => (x0 (ix3 1 k n) : EReal) + x1 (ix2 k z)) (Fin.ext ?_)
  show 8192 + n.val = 1 * 8192 + n.val
  omega

theorem first_khot (k : Fin 64) (n : Fin 8192) : k0_pay13 x0 x1 (ix2 k n) = Row.khotK tiny (col x0 x1 0 n) k := by
  unfold k0_pay13
  rw [KCol.pay2_eq, KCol.colKhot_at]
  exact congrArg (fun y => Row.khotK tiny y k) (col0 x0 x1 n)

theorem second_khot (k : Fin 64) (n : Fin 8192) :
    k0_pay8 (k0_pay14 x0 x1) (k0_pay15 x0 x1) (k0_pay16 x0 x1) (ix2 k n) = Row.khotK tiny (col x0 x1 1 n) k := by
  unfold k0_pay14 k0_pay15 k0_pay16
  rw [KCol.pay8_eq, KCol.colKhot_at]
  exact congrArg (fun y => Row.khotK tiny y k) (col1 x0 x1 n)

theorem first_hard (k : Fin 64) (n : Fin 8192) :
    k0_pay4 (k0_pay13 x0 x1) (k0_pay3 (View.ld x0 r0_0) (View.ld x1 r0_1)) (Scalar.ofBits .f32 0x3F800000#32) (ix3 (0 : Fin 1) k n)
      = Row.hard (Row.khotK tiny (col x0 x1 0 n)) k := by
  have e : k0_pay4 (k0_pay13 x0 x1) (k0_pay3 (View.ld x0 r0_0) (View.ld x1 r0_1)) (Scalar.ofBits .f32 0x3F800000#32)
      = shapeCast S1x64x8192 (KCol.colHard (k0_pay13 x0 x1)) shapeCasts_S64x8192_S1x64x8192 := KCol.pay4_eq _ _
  rw [e, KCol.lift_at, KCol.colHard_at]
  simp only [first_khot]

theorem second_hard (k : Fin 64) (n : Fin 8192) :
    k0_pay1 (k0_pay10 (k0_pay14 x0 x1) (k0_pay15 x0 x1) (k0_pay16 x0 x1)) (k0_pay11 (k0_pay14 x0 x1) (k0_pay15 x0 x1) (k0_pay16 x0 x1)) (k0_pay12 (k0_pay14 x0 x1) (k0_pay15 x0 x1) (k0_pay16 x0 x1)) (ix3 (0 : Fin 1) k n)
      = Row.hard (Row.khotK tiny (col x0 x1 1 n)) k := by
  rw [KCol.pay1_eq, KCol.lift_at, KCol.colHard_at]
  simp only [second_khot]

theorem idx2 (x : S64x8192.Idx) (k : Fin 64) (n : Fin 8192) (h0 : (x 0).val = k.val) (h1 : (x 1).val = n.val) : x = ix2 k n := by
  funext d
  match d with
  | ⟨0, _⟩ => exact Fin.ext h0
  | ⟨1, _⟩ => exact Fin.ext h1

theorem idx3 (x : S1x64x8192.Idx) (k : Fin 64) (n : Fin 8192) (h1 : (x 1).val = k.val) (h2 : (x 2).val = n.val) : x = ix3 0 k n := by
  funext d
  match d with
  | ⟨0, _⟩ => exact Fin.ext (by have := (x 0).isLt; change (x 0).val < 1 at this; show (x 0).val = 0; omega)
  | ⟨1, _⟩ => exact Fin.ext h1
  | ⟨2, _⟩ => exact Fin.ext h2

theorem out3 (y : S64x16384.Idx) (j : Fin 2) (k : Fin 64) (n : Fin 8192) (e0 : (y 0).val = k.val) (e1 : (y 1).val = j.val * 8192 + n.val) :
    out0_3 x0 x1 y = Row.khotK tiny (col x0 x1 j n) k := by
  unfold out0_3
  canon_tiles x h
  · rw [idx2 x k n (by omega) (by omega), second_khot, show j = 1 from Fin.ext (by show j.val = 1; omega)]
  · rw [idx2 x k n (by omega) (by omega), first_khot, show j = 0 from Fin.ext (by show j.val = 0; omega)]

theorem out2 (y : S2x64x8192.Idx) (j : Fin 2) (k : Fin 64) (n : Fin 8192) (e0 : (y 0).val = j.val) (e1 : (y 1).val = k.val) (e2 : (y 2).val = n.val) :
    out0_2 x0 x1 y = Row.hard (Row.khotK tiny (col x0 x1 j n)) k := by
  unfold out0_2
  canon_tiles x h
  · rw [idx3 x k n (by omega) (by omega), second_hard, show j = 1 from Fin.ext (by show j.val = 1; omega)]
  · rw [idx3 x k n (by omega) (by omega), first_hard, show j = 0 from Fin.ext (by show j.val = 0; omega)]

end Cert.Proof.KBlock

end
-- ==== Proof.KValue.lean ====
/- The kernel's two result arrays, at an index. -/
module

public import proofs.«01_k».proof.Defs
public import proofs.«01_k».proof.Proof.KNoise
public import proofs.«01_k».proof.Proof.KBlock
public import Idealize.ShloMosaic.Lib.Claim

@[expose] public section

set_option maxRecDepth 16384

noncomputable section

namespace Cert.Proof.KValue

open Cert.KernelIdeal Cert.KernelIdeal.Gen Idealize.ShloMosaic Idealize.ShloMosaic.TcCoe Idealize.ShloMosaic.StableHlo
open Idealize.ShloMosaic.Pointwise Idealize.SL.Sem Cert.Proof.Threefry

variable (m : (ℓ : Loc nD τ sig) → Buf (Elt Ideal) ℓ)

/-- A row of scores with its noise added. -/
def row (x : FVec Ideal S32x8192x64 .f32) (r : Fin 262144) : Row.R := fun k =>
  (x (ix3 (⟨r.val / 8192, by omega⟩ : Fin 32) (⟨r.val % 8192, by omega⟩ : Fin 8192) k) : EReal)
    + noise (word (BitVec.ofNat 32 (r.val * 64 + k.val)))

/-- The scores of core `c`. -/
abbrev scores (c : Dev nD) : FVec Ideal S32x8192x64 .f32 := m ((c.tc : Thread nD τ).loc main_arg0)

theorem idx : ∀ t : Fin grid0.N, win0_0.index t = ![t.val, 0, 0] ∧ win0_1.index t = ![0, t.val]
    ∧ win0_2.index t = ![t.val, 0, 0] ∧ win0_3.index t = ![0, t.val] := by decide +kernel

theorem noise_at (c : Dev nD) (k : Fin 64) (b : Fin 262144) :
    V m c main_v197 (ix2 k b) = noise (word (BitVec.ofNat 32 (b.val * 64 + k.val))) := by
  unfold V V0
  rw [List.flatten_cons, List.flatten_nil, List.append_nil]
  exact KNoise.noise_at _ k b

theorem rest (W : Valuation τ sig (Elt Ideal)) : after ((hostOps0 (F := Ideal)).drop 1) W ↑main_v0 = W ↑main_v0 := by
  refine after_of_forall_not_mem _ _ ?_
  unfold hostOps0
  rw [List.drop_succ_cons, List.drop_zero]
  intro _ h
  (repeat (cases h with | head => exact of_decide_eq_false rfl | tail _ h => ?_))
  exact nomatch h

theorem turn (W : Valuation τ sig (Elt Ideal)) (p : Fin 32) (k : Fin 64) (n : Fin 8192) :
    after ((hostOps0 (F := Ideal)).take 1) W ↑main_v0 (ix3 p k n) = W ↑main_arg0 (ix3 p n k) := by
  after_reads_simp
  pointwise

theorem turned_at (c : Dev nD) (p : Fin 32) (k : Fin 64) (n : Fin 8192) :
    V m c main_v0 (ix3 p k n) = scores m c (ix3 p n k) := by
  unfold V V0
  rw [List.flatten_cons, List.flatten_nil, List.append_nil, ← List.take_append_drop 1 (hostOps0 (F := Ideal)), after_append, rest]
  exact turn _ p k n

theorem block0_of (X : FVec Ideal S32x64x8192 .f32) (t : Fin cfg0.N) (j : Fin 2) (k : Fin 64) (n : Fin 8192) (p : Fin 32)
    (hp : p.val = 2 * t.val + j.val) : ((cfg0.win 0).blk t).view.read (Elt Ideal) X (ix3 j k n) = X (ix3 p k n) := by
  blk_ext [idx t]

theorem block1_of (X : FVec Ideal S64x262144 .f32) (t : Fin cfg0.N) (k : Fin 64) (b : Fin 16384) (q : Fin 262144)
    (hq : q.val = t.val * 16384 + b.val) : ((cfg0.win 1).blk t).view.read (Elt Ideal) X (ix2 k b) = X (ix2 k q) := by
  blk_ext [idx t]

theorem block0 (c : Dev nD) (t : Fin cfg0.N) (j : Fin 2) (k : Fin 64) (n : Fin 8192) (p : Fin 32) (hp : p.val = 2 * t.val + j.val) :
    iblk m c 0 t (ix3 j k n) = V m c main_v0 (ix3 p k n) :=
  block0_of (V m c main_v0) t j k n p hp

theorem block1 (c : Dev nD) (t : Fin cfg0.N) (k : Fin 64) (b : Fin 16384) (q : Fin 262144) (hq : q.val = t.val * 16384 + b.val) :
    iblk m c 1 t (ix2 k b) = V m c main_v197 (ix2 k q) :=
  block1_of (V m c main_v197) t k b q hq

theorem col_at (c : Dev nD) (t : Fin cfg0.N) (j : Fin 2) (n : Fin 8192) (r : Fin 262144) (hr : r.val = (2 * t.val + j.val) * 8192 + n.val) :
    KBlock.col (iblk m c 0 t) (iblk m c 1 t) j n = row (scores m c) r := by
  funext k
  have hb : r.val = t.val * 16384 + (j.val * 8192 + n.val) := hr.trans (by ring)
  have hl : j.val * 8192 + n.val < 16384 := by omega
  have hp : (⟨r.val / 8192, by omega⟩ : Fin 32).val = 2 * t.val + j.val := by show r.val / 8192 = _; omega
  have hn : n = (⟨r.val % 8192, by omega⟩ : Fin 8192) := Fin.ext (by show n.val = r.val % 8192; omega)
  have e0 := ((block0 m c t j k n _ hp).trans (turned_at m c _ k n)).trans (congrArg (fun z => scores m c (ix3 _ z k)) hn)
  have e1 := (block1 m c t k ⟨j.val * 8192 + n.val, hl⟩ r hb).trans (noise_at m c k r)
  exact congrArg₂ (fun u v : EReal => u + v) e0 e1

/-- The array of soft masks, as the kernel writes it. -/
def softArr (x : FVec Ideal S32x8192x64 .f32) : FVec Ideal S64x262144 .f32 := fun y => Row.khotK tiny (row x (y 1)) (y 0)

/-- The array of hard masks, as the kernel writes it. -/
def hardArr (x : FVec Ideal S32x8192x64 .f32) : FVec Ideal S32x64x8192 .f32 := fun y =>
  Row.hard (Row.khotK tiny (row x ⟨(y 0).val * 8192 + (y 2).val, by
    have h0 : (y 0).val < 32 := (y 0).isLt
    have h2 : (y 2).val < 8192 := (y 2).isLt
    omega⟩)) (y 1)

theorem soft_arr (c : Dev nD) : (dats m 0 c).arrAt 3 cfg0.N = softArr (scores m c) := by
  refine (dats m 0 c).arrAt_eq_of_covers 3 _ (by decide +kernel) fun t hf y => ?_
  blk_simp
  rw [after0_3]
  have b0 : (y 0).val < 64 := (y 0).isLt
  have b1 : (y 1).val < 16384 := (y 1).isLt
  have h0 : ((win0_3.blk t).view.emb y 0).val = (y 0).val := by blk_simp [idx t]
  have h1 : ((win0_3.blk t).view.emb y 1).val = t.val * 16384 + (y 1).val := by blk_simp [idx t]
  refine (KBlock.out3 _ _ y ⟨(y 1).val / 8192, by omega⟩ ⟨(y 0).val, b0⟩ ⟨(y 1).val % 8192, by omega⟩ rfl (by show (y 1).val = (y 1).val / 8192 * 8192 + (y 1).val % 8192; omega)).trans ?_
  rw [col_at m c t _ _ ((win0_3.blk t).view.emb y 1) (by rw [h1]; show _ = (2 * t.val + (y 1).val / 8192) * 8192 + (y 1).val % 8192; omega)]
  exact congrArg (Row.khotK tiny (row (scores m c) ((win0_3.blk t).view.emb y 1))) (Fin.ext h0.symm)

theorem hard_arr (c : Dev nD) : (dats m 0 c).arrAt 2 cfg0.N = hardArr (scores m c) := by
  refine (dats m 0 c).arrAt_eq_of_covers 2 _ (by decide +kernel) fun t hf y => ?_
  blk_simp
  rw [after0_2]
  have b0 : (y 0).val < 2 := (y 0).isLt
  have b1 : (y 1).val < 64 := (y 1).isLt
  have b2 : (y 2).val < 8192 := (y 2).isLt
  have h0 : ((win0_2.blk t).view.emb y 0).val = t.val * 2 + (y 0).val := by blk_simp [idx t]
  have h1 : ((win0_2.blk t).view.emb y 1).val = (y 1).val := by blk_simp [idx t]
  have h2 : ((win0_2.blk t).view.emb y 2).val = (y 2).val := by blk_simp [idx t]
  refine (KBlock.out2 _ _ y ⟨(y 0).val, b0⟩ ⟨(y 1).val, b1⟩ ⟨(y 2).val, b2⟩ rfl rfl rfl).trans ?_
  unfold hardArr
  have hr : ((win0_2.blk t).view.emb y 0).val * 8192 + ((win0_2.blk t).view.emb y 2).val = (2 * t.val + (y 0).val) * 8192 + (y 2).val := by
    rw [h0, h2]; omega
  rw [col_at m c t ⟨(y 0).val, b0⟩ ⟨(y 2).val, b2⟩ ⟨_, _⟩ hr]
  exact congrArg (Row.hard (Row.khotK tiny (row (scores m c) ⟨((win0_2.blk t).view.emb y 0).val * 8192 + ((win0_2.blk t).view.emb y 2).val, _⟩))) (Fin.ext h1.symm)

end Cert.Proof.KValue

end
-- ==== Proof.KRun.lean ====
/- The kernel's run: its two results. -/
module

public import proofs.«01_k».proof.Proof.KValue
public import proofs.«01_k».proof.Proof.Gen.KernelIdeal.Frame
public import Idealize.ShloMosaic.Lib.Quiescent

@[expose] public section

set_option maxRecDepth 16384

noncomputable section

namespace Cert.Proof.KRun

open Cert.KernelIdeal Cert.KernelIdeal.Gen Idealize.ShloMosaic Idealize.ShloMosaic.TcCoe Idealize.ShloMosaic.StableHlo
open Idealize.SL.Sem Cert.Proof.Threefry

/-- The hard masks of the rows of `x`, as the kernel computes them. -/
def hardOut (x : FVec Ideal S32x8192x64 .f32) : FVec Ideal S32x8192x64 .f32 := fun y =>
  Row.hard (Row.khotK tiny (KValue.row x ⟨(y 0).val * 8192 + (y 1).val, by
    have h0 : (y 0).val < 32 := (y 0).isLt
    have h1 : (y 1).val < 8192 := (y 1).isLt
    omega⟩)) (y 2)

/-- The soft masks of the rows of `x`, as the kernel computes them. -/
def softOut (x : FVec Ideal S32x8192x64 .f32) : FVec Ideal S262144x64 .f32 := fun y => Row.khotK tiny (KValue.row x (y 0)) (y 1)

theorem turn3 (X : FVec Ideal S32x64x8192 .f32) (h : S32x64x8192.Transposes [0, 2, 1] S32x8192x64) (p : Fin 32) (n : Fin 8192) (k : Fin 64) :
    transpose S32x8192x64 [0, 2, 1] X h (ix3 p n k) = X (ix3 p k n) := by
  pointwise

theorem turn2 (X : FVec Ideal S64x262144 .f32) (h : S64x262144.Transposes [1, 0] S262144x64) (r : Fin 262144) (k : Fin 64) :
    transpose S262144x64 [1, 0] X h (ix2 r k) = X (ix2 k r) := by
  pointwise

theorem ix3_eq (y : S32x8192x64.Idx) : y = ix3 (y 0) (y 1) (y 2) := by
  funext d
  fin_cases d <;> rfl

theorem ix2_eq (y : S262144x64.Idx) : y = ix2 (y 0) (y 1) := by
  funext d
  fin_cases d <;> rfl

theorem hard_eq (x : FVec Ideal S32x8192x64 .f32) (X : FVec Ideal S32x64x8192 .f32) (e : X = KValue.hardArr x)
    (h : S32x64x8192.Transposes [0, 2, 1] S32x8192x64) : transpose S32x8192x64 [0, 2, 1] X h = hardOut x := by
  funext y
  subst e
  exact (congrArg (transpose S32x8192x64 [0, 2, 1] (KValue.hardArr x) h) (ix3_eq y)).trans (turn3 _ h (y 0) (y 1) (y 2))

theorem soft_eq (x : FVec Ideal S32x8192x64 .f32) (X : FVec Ideal S64x262144 .f32) (e : X = KValue.softArr x)
    (h : S64x262144.Transposes [1, 0] S262144x64) : transpose S262144x64 [1, 0] X h = softOut x := by
  funext y
  subst e
  exact (congrArg (transpose S262144x64 [1, 0] (KValue.softArr x) h) (ix2_eq y)).trans (turn2 _ h (y 0) (y 1))

variable (m : (ℓ : Loc nD τ sig) → Buf (Elt Ideal) ℓ) (g : Dev nD → PrngReg)

theorem arrays_apart : Function.Injective (Pipeline.arrRef spec0) := by decide

theorem tail_hard (c : Dev nD) : Pipeline.afterTail₀ cfgs (dats m) 0 (V0 m) [hostOps1] c main_v199 = hardOut (KValue.scores m c) := by
  unfold Pipeline.afterTail₀
  simp only [List.flatten_cons, List.flatten_nil, List.append_nil]
  after_results
  exact hard_eq _ _ ((Pipeline.withArrays_arr spec0 arrays_apart c (V0 m c) (fun w => (dats m 0 c).arrAt w cfg0.N) 2).trans (KValue.hard_arr m c)) _

theorem tail_soft (c : Dev nD) : Pipeline.afterTail₀ cfgs (dats m) 0 (V0 m) [hostOps1] c main_v200 = softOut (KValue.scores m c) := by
  unfold Pipeline.afterTail₀
  simp only [List.flatten_cons, List.flatten_nil, List.append_nil]
  after_results
  exact soft_eq _ _ ((Pipeline.withArrays_arr spec0 arrays_apart c (V0 m c) (fun w => (dats m 0 c).arrAt w cfg0.N) 3).trans (KValue.soft_arr m c)) _

theorem run : θ_run (defs (F := Ideal)) (onTc (τ := τ) (main (F := Ideal))) ⟨m, fun _ => 0, g⟩ (fun r => ∀ c : Dev nD,
    r.2.mem ((c.tc : Thread nD τ).loc main_v199) = hardOut (KValue.scores m c)
    ∧ r.2.mem ((c.tc : Thread nD τ).loc main_v200) = softOut (KValue.scores m c)
    ∧ r.2.mem ((c.tc : Thread nD τ).loc main_arg0) = m ((c.tc : Thread nD τ).loc main_arg0)) := by
  refine θ_run_mono (run_main (F := Ideal) m g) fun r h c => ⟨?_, ?_, ?_⟩
  · exact ((h c).2 main_v199 (Pipeline.mem_restRefs_of main_v199 (by decide) (by decide))).trans (tail_hard m c)
  · exact ((h c).2 main_v200 (Pipeline.mem_restRefs_of main_v200 (by decide) (by decide))).trans (tail_soft m c)
  · exact ((h c).2 main_arg0 (Pipeline.mem_restRefs_of main_arg0 (by decide) (by decide))).trans (W_main_arg0 m (dats m) c)

end Cert.Proof.KRun

end
-- ==== Proof.RNoise.lean ====
/- The reference's noise: what its first operations leave in the Gumbel array, at an index. -/
module

public import proofs.«01_k».proof.Proof.RefOps
public import proofs.«01_k».proof.Proof.Noise
public import Idealize.ShloMosaic.Lib.StableHlo.RunRead
public import Idealize.ShloMosaic.Lib.StableHlo.ReadAt

@[expose] public section

set_option maxRecDepth 16384

noncomputable section

namespace Cert.Proof.RNoise

open Idealize.ShloMosaic Idealize.ShloMosaic.TcCoe Idealize.ShloMosaic.Pipeline Idealize.ShloMosaic.StableHlo Cert.ReferenceIdeal Cert.ReferenceIdeal.Gen Cert.Proof.Threefry

/-- The operations at the places from `a` on, `n` of them. -/
abbrev seg (a n : ℕ) : List (HloOp τ sig (Elt Ideal)) := ((Ref.ops (F := Ideal)).drop a).take n

variable (V : Valuation τ sig (Elt Ideal))

/-- The key words, the third made of them and the two ends of the uniform numbers stand in their buffers. -/
structure Keys (V : Valuation τ sig (Elt Ideal)) : Prop where
  k : V ↑main_call0_call0_v4 = fun _ => 0#32
  l : V ↑main_call0_call0_v6 = fun _ => 1#32
  t : V ↑main_call0_call0_call0_v1 = fun _ => third 0#32 1#32
  lo : V ↑main_call0_call0_v1 = fun _ => tiny
  hi : V ↑main_call0_call0_v2 = fun _ => unit1

variable {V}

theorem key_k : upto (seg 0 41) V 10 ↑main_v3 = fun _ => 0#32 := by
  after_reads_simp
  rfl

theorem key_l : upto (seg 0 41) V 10 ↑main_v6 = fun _ => 1#32 := by
  after_reads_simp
  funext i
  exact (by decide : IntOp.andi (1#32) (4294967295#32) = 1#32)

/-- The row-major place of an index, as a word of 64 bits. -/
theorem place64 (a : Fin 262144) (b : Fin 64) :
    IntOp.addi (IntOp.muli (64#64) (BitVec.ofNat 64 a.val)) (IntOp.muli (1#64) (BitVec.ofNat 64 b.val))
      = BitVec.ofNat 64 (a.val * 64 + b.val) := by
  apply BitVec.eq_of_toNat_eq
  simp only [IntOp.addi, IntOp.muli, BitVec.toNat_add, BitVec.toNat_mul, BitVec.toNat_ofNat]
  omega

theorem place_low (n : ℕ) : BitVec.setWidth 32 (BitVec.ofNat 64 n) = BitVec.ofNat 32 n := by
  apply BitVec.eq_of_toNat_eq
  simp only [BitVec.toNat_setWidth, BitVec.toNat_ofNat]
  omega

theorem place_high (n : ℕ) (h : n < 2 ^ 32) : BitVec.setWidth 32 (IntOp.shrui .host (BitVec.ofNat 64 n) 32#64) = 0#32 := by
  apply BitVec.eq_of_toNat_eq
  have e : IntOp.shrui .host (BitVec.ofNat 64 n) 32#64 = BitVec.ofNat 64 n >>> (32#64) := rfl
  rw [e]
  simp only [BitVec.toNat_setWidth, BitVec.ushiftRight_eq', BitVec.toNat_ushiftRight, BitVec.toNat_ofNat, Nat.shiftRight_eq_div_pow, Nat.reducePow, Nat.reduceMod]
  omega

theorem keys0 : Keys (after (seg 0 41) V) := by
  constructor
  · after_reads_simp
    simp only [TRef.toBuf, TRef.ofBuf, cast_eq]
    funext i
    clean_types
    pointwise
    rw [key_k]
  · after_reads_simp
    simp only [TRef.toBuf, TRef.ofBuf, cast_eq]
    funext i
    clean_types
    pointwise
    rw [key_l]
  · after_reads_simp
    simp only [TRef.toBuf, TRef.ofBuf, cast_eq]
    funext i
    clean_types
    pointwise
    rw [key_k, key_l]
    rfl
  · after_reads_simp
    rfl
  · after_reads_simp
    rfl

theorem seg0_x (a : Fin 262144) (b : Fin 64) : after (seg 0 41) V ↑main_call0_call0_call0_v3 (ix2 a b) = 0#32 := by
  after_reads_at
  rw [key_k, place64, place_high _ (by omega)]
  rfl

theorem seg0_y (a : Fin 262144) (b : Fin 64) :
    after (seg 0 41) V ↑main_call0_call0_call0_v5 (ix2 a b) = IntOp.addi (BitVec.ofNat 32 (a.val * 64 + b.val)) 1#32 := by
  after_reads_at
  rw [key_l, place64, place_low]

theorem seg6 (h : Keys V) (i : S262144x64.Idx) :
    after (seg 256 22) V ↑main_v8 i = noise (IntOp.xori (V ↑main_call0_call0_v18_0 i) (V ↑main_call0_call0_v18_1 i)) := by
  after_reads_simp
  simp only [TRef.toBuf, TRef.ofBuf, cast_eq, h.lo, h.hi]
  rfl

theorem seg1 (h : Keys V) (i : S262144x64.Idx) :
    (after (seg 41 43) V ↑main_call0_call0_call0_v35 i, after (seg 41 43) V ↑main_call0_call0_call0_v39 i)
      = inject 1#32 (third 0#32 1#32) 1#32 (odd (V ↑main_call0_call0_call0_v3 i, V ↑main_call0_call0_call0_v5 i)) := by
  after_reads_simp
  simp only [TRef.toBuf, TRef.ofBuf, cast_eq, h.k, h.l, h.t]
  rfl

theorem keys1 (h : Keys V) : Keys (after (seg 41 43) V) := by
  constructor <;> after_reads_simp
  exacts [h.k, h.l, h.t, h.lo, h.hi]

theorem seg2 (h : Keys V) (i : S262144x64.Idx) :
    (after (seg 84 43) V ↑main_call0_call0_call0_v69 i, after (seg 84 43) V ↑main_call0_call0_call0_v73 i)
      = inject (third 0#32 1#32) 0#32 2#32 (even (V ↑main_call0_call0_call0_v35 i, V ↑main_call0_call0_call0_v39 i)) := by
  after_reads_simp
  simp only [TRef.toBuf, TRef.ofBuf, cast_eq, h.k, h.l, h.t]
  rfl

theorem keys2 (h : Keys V) : Keys (after (seg 84 43) V) := by
  constructor <;> after_reads_simp
  exacts [h.k, h.l, h.t, h.lo, h.hi]

theorem seg3 (h : Keys V) (i : S262144x64.Idx) :
    (after (seg 127 43) V ↑main_call0_call0_call0_v103 i, after (seg 127 43) V ↑main_call0_call0_call0_v107 i)
      = inject 0#32 1#32 3#32 (odd (V ↑main_call0_call0_call0_v69 i, V ↑main_call0_call0_call0_v73 i)) := by
  after_reads_simp
  simp only [TRef.toBuf, TRef.ofBuf, cast_eq, h.k, h.l, h.t]
  rfl

theorem keys3 (h : Keys V) : Keys (after (seg 127 43) V) := by
  constructor <;> after_reads_simp
  exacts [h.k, h.l, h.t, h.lo, h.hi]

theorem seg4 (h : Keys V) (i : S262144x64.Idx) :
    (after (seg 170 43) V ↑main_call0_call0_call0_v137 i, after (seg 170 43) V ↑main_call0_call0_call0_v141 i)
      = inject 1#32 (third 0#32 1#32) 4#32 (even (V ↑main_call0_call0_call0_v103 i, V ↑main_call0_call0_call0_v107 i)) := by
  after_reads_simp
  simp only [TRef.toBuf, TRef.ofBuf, cast_eq, h.k, h.l, h.t]
  rfl

theorem keys4 (h : Keys V) : Keys (after (seg 170 43) V) := by
  constructor <;> after_reads_simp
  exacts [h.k, h.l, h.t, h.lo, h.hi]

theorem seg5 (h : Keys V) (i : S262144x64.Idx) :
    (after (seg 213 43) V ↑main_call0_call0_v18_0 i, after (seg 213 43) V ↑main_call0_call0_v18_1 i)
      = inject (third 0#32 1#32) 0#32 5#32 (odd (V ↑main_call0_call0_call0_v137 i, V ↑main_call0_call0_call0_v141 i)) := by
  after_reads_simp
  simp only [TRef.toBuf, TRef.ofBuf, cast_eq, h.k, h.l, h.t]
  rfl

theorem keys5 (h : Keys V) : Keys (after (seg 213 43) V) := by
  constructor <;> after_reads_simp
  exacts [h.k, h.l, h.t, h.lo, h.hi]

/-- The operations before the noise is used, in seven stretches. -/
theorem noise_eq : (Ref.ops (F := Ideal)).take 278
    = seg 0 41 ++ (seg 41 43 ++ (seg 84 43 ++ (seg 127 43 ++ (seg 170 43 ++ (seg 213 43 ++ seg 256 22))))) := by rfl

/-- The noise array at an index: the Gumbel number of the random word at the index's place in the row-major order. -/
theorem noise_at (a : Fin 262144) (b : Fin 64) :
    after ((Ref.ops (F := Ideal)).take 278) V ↑main_v8 (ix2 a b) = noise (word (BitVec.ofNat 32 (a.val * 64 + b.val))) := by
  rw [noise_eq]
  simp only [after_append]
  have k0 := keys0 (V := V)
  have k1 := keys1 k0
  have k2 := keys2 k1
  have k3 := keys3 k2
  have k4 := keys4 k3
  have k5 := keys5 k4
  rw [seg6 k5]
  have h1 := seg1 k0 (ix2 a b)
  have h2 := seg2 k1 (ix2 a b)
  have h3 := seg3 k2 (ix2 a b)
  have h4 := seg4 k3 (ix2 a b)
  have h5 := seg5 k4 (ix2 a b)
  rw [seg0_x, seg0_y] at h1
  rw [h1] at h2
  rw [h2] at h3
  rw [h3] at h4
  rw [h4] at h5
  have e1 := congrArg Prod.fst h5
  have e2 := congrArg Prod.snd h5
  simp only at e1 e2
  rw [e1, e2]
  rfl

theorem in_at : after ((Ref.ops (F := Ideal)).take 278) V ↑main_v0
    = shapeCast S262144x64 (V ↑main_arg0) shapeCasts_S32x8192x64_S262144x64 := by
  after_reads_simp
  rfl

end Cert.Proof.RNoise

end
-- ==== Proof.RSoft.lean ====
/- The reference's sum of two softmaxes at an index. -/
module

public import proofs.«01_k».proof.Proof.RNoise
public import proofs.«01_k».proof.Proof.Softmax

@[expose] public section

set_option maxRecDepth 16384

noncomputable section

namespace Cert.Proof.RSoft

open Idealize.ShloMosaic Idealize.ShloMosaic.TcCoe Idealize.ShloMosaic.Pipeline Idealize.ShloMosaic.StableHlo Cert.ReferenceIdeal Cert.ReferenceIdeal.Gen
open Cert.Proof.RNoise (seg)

variable {V : Valuation τ sig (Elt Ideal)}

theorem log_max_one : Ideal.log (max 1 tiny) = 0 := by
  have h : max (1 : EReal) tiny = ((1 : ℝ) : EReal) := by
    rw [tiny_eq]
    exact max_eq_left (EReal.coe_le_coe_iff.2 (by norm_num))
  rw [h, Ideal.log_coe, if_neg (by norm_num), Real.log_one]
  rfl

/-- The sum of two extended reals, whatever type they are read at. -/
abbrev plus (x y : EReal) : EReal := x + y

/-- The scores with the noise, the first logarithm being zero. -/
theorem noisy (a : Fin 262144) (b : Fin 64) :
    after (seg 278 16) V ↑main_v17 (ix2 a b) = plus (V ↑main_v0 (ix2 a b)) (V ↑main_v8 (ix2 a b)) := by
  after_reads_simp
  pointwise
  exact (congrArg _ log_max_one).trans (add_zero (plus (V ↑main_v0 (ix2 a b)) (V ↑main_v8 (ix2 a b))))

theorem scores (a : Fin 262144) (b : Fin 64) :
    after (seg 278 16) V ↑main_v19 (ix2 a b) = Ideal.div (plus (V ↑main_v0 (ix2 a b)) (V ↑main_v8 (ix2 a b))) Row.temp := by
  after_reads_simp
  pointwise
  exact congrArg₂ Ideal.div ((congrArg _ log_max_one).trans (add_zero _)) Softmax.temp_eq

theorem zeros (a : Fin 262144) (b : Fin 64) : after (seg 278 16) V ↑main_v10 (ix2 a b) = (0 : EReal) := by
  after_reads_simp
  exact Softmax.zero_eq

theorem soft1 (a : Fin 262144) (b : Fin 64) :
    after (seg 294 14) V ↑main_v30 (ix2 a b) = Row.soft (fun k => V ↑main_v19 (ix2 a k)) b := by
  after_reads_simp
  exact Softmax.host_at (V ↑main_v19) _ _ _ _ _ a b

theorem soft1_noisy : after (seg 294 14) V ↑main_v17 = V ↑main_v17 := by
  after_reads_simp

theorem soft1_zeros : after (seg 294 14) V ↑main_v10 = V ↑main_v10 := by
  after_reads_simp

theorem rest (a : Fin 262144) (b : Fin 64) :
    after (seg 308 12) V ↑main_v39 (ix2 a b) = Ideal.div (plus (V ↑main_v17 (ix2 a b)) (Row.left tiny (fun k => V ↑main_v30 (ix2 a k)) b)) Row.temp := by
  after_reads_simp
  pointwise
  exact congrArg₂ Ideal.div rfl Softmax.temp_eq

theorem rest_sum (a : Fin 262144) (b : Fin 64) :
    after (seg 308 12) V ↑main_v31 (ix2 a b) = plus (V ↑main_v10 (ix2 a b)) (V ↑main_v30 (ix2 a b)) := by
  after_reads_simp
  rfl

theorem soft2 (a : Fin 262144) (b : Fin 64) :
    after (seg 320 15) V ↑main_v51 (ix2 a b) = plus (V ↑main_v31 (ix2 a b)) (Row.soft (fun k => V ↑main_v39 (ix2 a k)) b) := by
  after_reads_simp
  exact congrArg (plus (V ↑main_v31 (ix2 a b))) (Softmax.host_at (V ↑main_v39) _ _ _ _ _ a b)

/-- The operations between the noise and the sum. -/
abbrev stretch : List (HloOp τ sig (Elt Ideal)) := seg 278 16 ++ (seg 294 14 ++ (seg 308 12 ++ seg 320 15))

/-- The sum of the softmaxes at an index. -/
theorem khot_at (a : Fin 262144) (b : Fin 64) :
    after stretch V ↑main_v51 (ix2 a b) = Row.khot tiny (fun k => plus (V ↑main_v0 (ix2 a k)) (V ↑main_v8 (ix2 a k))) b := by
  simp only [stretch, after_append]
  have e17 : ∀ k, after (seg 294 14) (after (seg 278 16) V) ↑main_v17 (ix2 a k) = plus (V ↑main_v0 (ix2 a k)) (V ↑main_v8 (ix2 a k)) := fun k => by
    rw [soft1_noisy, noisy]
  have e19 : (fun k => after (seg 278 16) V ↑main_v19 (ix2 a k) : Row.R)
      = fun k => Ideal.div (plus (V ↑main_v0 (ix2 a k)) (V ↑main_v8 (ix2 a k))) Row.temp := funext fun k => scores a k
  have e30 : (fun k => after (seg 294 14) (after (seg 278 16) V) ↑main_v30 (ix2 a k) : Row.R)
      = Row.soft fun k => Ideal.div (plus (V ↑main_v0 (ix2 a k)) (V ↑main_v8 (ix2 a k))) Row.temp :=
    funext fun k => (soft1 a k).trans (congrArg (fun y => Row.soft y k) e19)
  have e39 : (fun k => after (seg 308 12) (after (seg 294 14) (after (seg 278 16) V)) ↑main_v39 (ix2 a k) : Row.R)
      = fun k => Ideal.div (plus (plus (V ↑main_v0 (ix2 a k)) (V ↑main_v8 (ix2 a k)))
          (Row.left tiny (Row.soft fun k => Ideal.div (plus (V ↑main_v0 (ix2 a k)) (V ↑main_v8 (ix2 a k))) Row.temp) k)) Row.temp :=
    funext fun k => (rest a k).trans (congrArg₂ (fun x y => Ideal.div (plus x (Row.left tiny y k)) Row.temp) (e17 k) e30)
  have e10 : after (seg 294 14) (after (seg 278 16) V) ↑main_v10 (ix2 a b) = (0 : EReal) := by
    rw [soft1_zeros, zeros]
  refine (soft2 a b).trans (congrArg₂ plus ?_ (congrArg (fun y => Row.soft y b) e39))
  exact (rest_sum a b).trans ((congrArg₂ plus e10 (congrFun e30 b)).trans (zero_add _))

end Cert.Proof.RSoft

end
-- ==== Proof.RMask.lean ====
/- The reference's mask at an index: ones at the two places that the top-k names. -/
module

public import proofs.«01_k».proof.Proof.RSoft
public import Idealize.ShloMosaic.Lib.Routing.OpsPair
public import Idealize.ShloMosaic.Lib.Routing.OpsSet

@[expose] public section

set_option maxRecDepth 16384

noncomputable section

namespace Cert.Proof.RMask

open Idealize.ShloMosaic Idealize.ShloMosaic.TcCoe Idealize.ShloMosaic.Pipeline Idealize.ShloMosaic.StableHlo Cert.ReferenceIdeal Cert.ReferenceIdeal.Gen
open Cert.Proof.RNoise (seg)

variable {V : Valuation τ sig (Elt Ideal)}

/-- The places that the top-k gives. -/
theorem index_at (a : Fin 262144) (c : Fin 2) :
    after (seg 335 2) V ↑main_indices (ix2 a c) = BitVec.ofNat 32 (TopK.place (V ↑main_v51) a ⟨c.val, by omega⟩).val := by
  after_reads_simp
  exact TopK.index_at (V ↑main_v51) _ a c

theorem keeps1 : after (seg 335 2) V ↑main_v51 = V ↑main_v51 := by
  after_reads_simp

/-- The two words of each update: its row, and the place. -/
theorem row_at (a : Fin 262144) (c : Fin 2) :
    after (seg 337 22) V ↑main_v68 (ix3 a c 0) = BitVec.ofNat 32 a.val := by
  after_reads_simp
  pointwise
  exact Routing.wrap_of_lt _ _ (by rw [BitVec.toNat_ofNat]; omega)

theorem column_at (a : Fin 262144) (c : Fin 2) :
    after (seg 337 22) V ↑main_v68 (ix3 a c 1) = Scalar.select (IntOp.cmpi .slt (V ↑main_indices (ix2 a c)) 0#32)
      (IntOp.addi (V ↑main_indices (ix2 a c)) 64#32) (V ↑main_indices (ix2 a c)) := by
  after_reads_simp
  pointwise

theorem zeros (a : Fin 262144) (b : Fin 64) : after (seg 337 22) V ↑main_v54 (ix2 a b) = (0 : EReal) := by
  after_reads_simp
  exact Softmax.zero_eq

theorem keeps2 : after (seg 337 22) V ↑main_v51 = V ↑main_v51 := by
  after_reads_simp

/-- Ones put at two places of each row of zeros. -/
theorem scatter_at (d : ScatterDims S262144x64 S262144x2x2 S262144x2) (hiw : d.insertedWindowDims = [0, 1])
    (hsd : d.scatterDimsToOperandDims = [0, 1]) (hivd : d.indexVectorDim = 2) (z : FVec Ideal S262144x64 .f32) (hz : ∀ a b, z (ix2 a b) = (0 : EReal))
    (o : FVec Ideal S262144x2 .f32) (ho : ∀ i, o i = (1 : EReal)) (idx : IVec S262144x2x2 32) (at' : Fin 262144 → Fin 2 → Fin 64)
    (h0 : ∀ a c, idx (ix3 a c 0) = BitVec.ofNat 32 a.val) (h1 : ∀ a c, idx (ix3 a c 1) = BitVec.ofNat 32 (at' a c).val) (a : Fin 262144) (b : Fin 64) :
    Host.scatter d (fun _ b => b) z idx o (ix2 a b) = Row.pair (at' a 0) (at' a 1) b := by
  have lands : ∀ (a' : Fin 262144) (c : Fin 2), d.resultIdx? (ix2 a' c) idx = some (ix2 a b) ↔ a' = a ∧ at' a' c = b := by
    intro a' c
    refine (Routing.scatter_lands2 d hiw hsd hivd idx a' c a b).trans ?_
    have e0 : idx (ValueIdx.ix3 a' c 0) = BitVec.ofNat 32 a'.val := h0 a' c
    have e1 : idx (ValueIdx.ix3 a' c 1) = BitVec.ofNat 32 (at' a' c).val := h1 a' c
    rw [e0, e1, StableHlo.Predicate.toInt_ofNat_small _ (by omega), StableHlo.Predicate.toInt_ofNat_small _ (by omega),
      Nat.cast_inj, Nat.cast_inj, Fin.val_inj, Fin.val_inj]
  have lands' : ∀ k : S262144x2.Idx, d.resultIdx? k idx = some (ix2 a b) ↔ k 0 = a ∧ at' (k 0) (k 1) = b := by
    intro k
    have hk : k = ix2 (k 0) (k 1) := by
      funext x
      match x with
      | ⟨0, _⟩ => rfl
      | ⟨1, _⟩ => rfl
    exact (Iff.of_eq (congrArg (fun z => d.resultIdx? z idx = some (ix2 a b)) hk)).trans (lands (k 0) (k 1))
  unfold Row.pair
  split
  · next h =>
    refine Routing.scatter_set_hit d z idx o (ix2 a b) (1 : EReal) (fun k _ => ho k) (ix2 a (if b = at' a 0 then (0 : Fin 2) else 1)) ?_
    refine (lands a _).2 ⟨rfl, ?_⟩
    split
    · next h' => exact h'.symm
    · next h' => exact (h.resolve_left h').symm
  · next h =>
    rw [Routing.scatter_set_miss d z idx o (ix2 a b), hz]
    intro k hk
    obtain ⟨e0, e1⟩ := (lands' k).1 hk
    rw [e0] at e1
    apply h
    have : ∀ c : Fin 2, c = 0 ∨ c = 1 := by decide
    rcases this (k 1) with e | e
    · exact .inl (by rw [← e1]; exact congrArg (at' a) e)
    · exact .inr (by rw [← e1]; exact congrArg (at' a) e)

theorem keeps3 : after (seg 359 6) V ↑main_v51 = V ↑main_v51 := by
  after_reads_simp

/-- The rows, in their batches. -/
theorem cast_at (y : FVec Ideal S262144x64 .f32) (h : S262144x64.ShapeCasts S32x8192x64) (p : Fin 32) (n : Fin 8192) (b : Fin 64) :
    shapeCast S32x8192x64 y h (ix3 p n b) = y (ix2 (⟨p.val * 8192 + n.val, by omega⟩ : Fin 262144) b) := by
  pointwise

/-- A mask with the sum taken away and given back. -/
theorem last_at (p : Fin 32) (n : Fin 8192) (b : Fin 64) (at' : Fin 262144 → Fin 2 → Fin 64)
    (hz : ∀ a b, V ↑main_v54 (ix2 a b) = (0 : EReal)) (h0 : ∀ (a : Fin 262144) (c : Fin 2), V ↑main_v68 (ix3 a c 0) = BitVec.ofNat 32 a.val)
    (h1 : ∀ (a : Fin 262144) (c : Fin 2), V ↑main_v68 (ix3 a c 1) = BitVec.ofNat 32 (at' a c).val)
    (hr : ∃ r : ℝ, V ↑main_v51 (ix2 (⟨p.val * 8192 + n.val, by omega⟩ : Fin 262144) b) = (r : EReal)) :
    after (seg 359 6) V ↑main_v73 (ix3 p n b) = Row.pair (at' ⟨p.val * 8192 + n.val, by omega⟩ 0) (at' ⟨p.val * 8192 + n.val, by omega⟩ 1) b := by
  after_reads_simp
  refine (cast_at _ _ p n b).trans ?_
  have e := scatter_at scatter_S262144x64_S262144x2x2_S262144x2_n_01_01_2 rfl rfl rfl (V ↑main_v54) hz
    (broadcastInDim S262144x2 ![] bcast_S_S262144x2 (constant S_ FTy.f32 1065353216#32)) (fun _ => Softmax.one_eq) (V ↑main_v68) at' h0 h1
    ⟨p.val * 8192 + n.val, by omega⟩ b
  exact (congrArg (fun z : EReal => z - V ↑main_v51 (ix2 (⟨p.val * 8192 + n.val, by omega⟩ : Fin 262144) b)
    + V ↑main_v51 (ix2 (⟨p.val * 8192 + n.val, by omega⟩ : Fin 262144) b)) e).trans (Row.sub_add_real _ _ b hr)

/-- The operations of the mask. -/
abbrev stretch : List (HloOp τ sig (Elt Ideal)) := seg 335 2 ++ (seg 337 22 ++ seg 359 6)

theorem mask_at (p : Fin 32) (n : Fin 8192) (b : Fin 64)
    (hr : ∃ r : ℝ, V ↑main_v51 (ix2 (⟨p.val * 8192 + n.val, by omega⟩ : Fin 262144) b) = (r : EReal)) :
    after stretch V ↑main_v73 (ix3 p n b) = Row.pair (TopK.place (V ↑main_v51) ⟨p.val * 8192 + n.val, by omega⟩ 0)
      (TopK.place (V ↑main_v51) ⟨p.val * 8192 + n.val, by omega⟩ 1) b := by
  simp only [stretch, after_append]
  refine last_at p n b (fun a c => TopK.place (V ↑main_v51) a ⟨c.val, by omega⟩) zeros row_at (fun a c => ?_) ?_
  · rw [column_at, index_at]
    exact Routing.wrap_of_lt _ _ (by rw [BitVec.toNat_ofNat]; omega)
  · rw [keeps2, keeps1]
    exact hr

theorem keeps : after stretch V ↑main_v51 = V ↑main_v51 := by
  simp only [stretch, after_append]
  rw [show after (seg 359 6) _ ↑main_v51 = _ from keeps3, keeps2, keeps1]

end Cert.Proof.RMask

end
-- ==== Proof.OnWord.lean ====
/- The random words of the selection predicate: its own spelling of Threefry is the one function. -/
module

public import proofs.«01_k».proof.On_selected
public import proofs.«01_k».proof.Proof.Noise

@[expose] public section

set_option maxRecDepth 16384

noncomputable section

namespace Cert.Proof.OnWord

open Idealize.ShloMosaic Cert.On_selected Cert.Proof.Threefry

variable [Cert.On_selected.Facts]

/-- Two arrays of words, read at an index. -/
abbrev both (o : IVec S262144x64 32 × IVec S262144x64 32) (i : S262144x64.Idx) : W2 := (o.1 i, o.2 i)

variable (k l : BitVec 32)

/-- The rounds that are left at each place where the function is cut, last first. -/
def left9 (s : W2) : W2 := inject (third k l) k 5#32 s
def left8 (s : W2) : W2 := left9 k l (mix 6#32 26#32 (mix 26#32 6#32 (mix 15#32 17#32 s)))
def left7 (s : W2) : W2 := left8 k l (mix 13#32 19#32 (inject l (third k l) 4#32 (mix 24#32 8#32 s)))
def left6 (s : W2) : W2 := left7 k l (mix 16#32 16#32 (mix 29#32 3#32 (mix 17#32 15#32 s)))
def left5 (s : W2) : W2 := left6 k l (inject k l 3#32 (mix 6#32 26#32 s))
def left4 (s : W2) : W2 := left5 k l (mix 26#32 6#32 (mix 15#32 17#32 (mix 13#32 19#32 s)))
def left3 (s : W2) : W2 := left4 k l (inject (third k l) k 2#32 (mix 24#32 8#32 (mix 16#32 16#32 s)))
def left2 (s : W2) : W2 := left3 k l (mix 29#32 3#32 (mix 17#32 15#32 s))
def left1 (s : W2) : W2 := left2 k l (inject l (third k l) 1#32 (mix 6#32 26#32 (mix 26#32 6#32 (mix 15#32 17#32 s))))

theorem left1_eq (x y : BitVec 32) : left1 k l (mix 13#32 19#32 (IntOp.addi x k, IntOp.addi y l)) = run k l x y := rfl

variable (S : S262144x64.Idx → W2) (i : S262144x64.Idx)

theorem part9 : both (fn_threefry2x32_part9 (F := Ideal) (fun _ => k) (fun j => (S j).1) (fun j => (S j).2) (fun _ => third k l)) i = left9 k l (S i) := rfl

theorem part8 : both (fn_threefry2x32_part8 (F := Ideal) (fun _ => k) (fun _ => third k l) (fun j => (S j).2)
    (fun j => IntOp.addi (S j).1 (S j).2) (fun j => IntOp.shli .host (S j).2 15#32)) i = left8 k l (S i) := by
  unfold fn_threefry2x32_part8
  exact part9 k l (fun j => mix 6#32 26#32 (mix 26#32 6#32 (mix 15#32 17#32 (S j)))) i

theorem part7 : both (fn_threefry2x32_part7 (F := Ideal) (fun _ => k) (fun _ => l) (fun _ => third k l) (fun j => (S j).2)
    (fun j => IntOp.addi (S j).1 (S j).2) (fun j => IntOp.shli .host (S j).2 24#32) (fun _ => 8#32)) i = left7 k l (S i) := by
  unfold fn_threefry2x32_part7
  exact part8 k l (fun j => mix 13#32 19#32 (inject l (third k l) 4#32 (mix 24#32 8#32 (S j)))) i

theorem part6 : both (fn_threefry2x32_part6 (F := Ideal) (fun _ => k) (fun _ => l) (fun _ => third k l)
    (fun j => IntOp.addi (S j).1 (S j).2) (fun j => turn (S j).2 17#32 15#32)) i = left6 k l (S i) := by
  unfold fn_threefry2x32_part6
  exact part7 k l (fun j => mix 16#32 16#32 (mix 29#32 3#32 (mix 17#32 15#32 (S j)))) i

theorem part5 : both (fn_threefry2x32_part5 (F := Ideal) (fun _ => k) (fun _ => l) (fun _ => third k l)
    (fun j => (S j).1) (fun j => (S j).2)) i = left5 k l (S i) := by
  unfold fn_threefry2x32_part5
  exact part6 k l (fun j => inject k l 3#32 (mix 6#32 26#32 (S j))) i

theorem part4 : both (fn_threefry2x32_part4 (F := Ideal) (fun _ => k) (fun _ => l) (fun _ => third k l) (fun j => (S j).2)
    (fun j => IntOp.addi (S j).1 (S j).2) (fun _ => 13#32)) i = left4 k l (S i) := by
  unfold fn_threefry2x32_part4
  exact part5 k l (fun j => mix 26#32 6#32 (mix 15#32 17#32 (mix 13#32 19#32 (S j)))) i

theorem part3 : both (fn_threefry2x32_part3 (F := Ideal) (fun _ => k) (fun _ => l) (fun _ => third k l) (fun j => (S j).2)
    (fun j => IntOp.addi (S j).1 (S j).2) (fun j => IntOp.shli .host (S j).2 16#32)) i = left3 k l (S i) := by
  unfold fn_threefry2x32_part3
  exact part4 k l (fun j => inject (third k l) k 2#32 (mix 24#32 8#32 (mix 16#32 16#32 (S j)))) i

/-- The words before the second of them is counted up. -/
theorem part2 (T : S262144x64.Idx → W2) : both (fn_threefry2x32_part2 (F := Ideal) (fun _ => k) (fun _ => l) (fun _ => third k l) (fun j => (T j).1)
    (fun j => (T j).2) (fun _ => 1#32)) i = left2 k l ((T i).1, IntOp.addi (T i).2 1#32) := by
  unfold fn_threefry2x32_part2
  exact part3 k l (fun j => mix 29#32 3#32 (mix 17#32 15#32 ((T j).1, IntOp.addi (T j).2 1#32))) i

theorem part1 : both (fn_threefry2x32_part1 (F := Ideal) (fun _ => k) (fun _ => l) (fun _ => third k l)
    (fun j => IntOp.addi (S j).1 (S j).2) (fun j => turn (S j).2 15#32 17#32)) i = left1 k l (S i) := by
  unfold fn_threefry2x32_part1
  exact part2 k l i (fun j => (IntOp.addi (mix 6#32 26#32 (mix 26#32 6#32 (mix 15#32 17#32 (S j)))).1 l,
    IntOp.addi (mix 6#32 26#32 (mix 26#32 6#32 (mix 15#32 17#32 (S j)))).2 (third k l)))

theorem words (x y : IVec S262144x64 32) : both (fn_threefry2x32 (F := Ideal) (fun _ => k) (fun _ => l) x y) i = run k l (x i) (y i) := by
  rw [← left1_eq]
  unfold fn_threefry2x32
  exact part1 k l (fun j => mix 13#32 19#32 (IntOp.addi (x j) k, IntOp.addi (y j) l)) i

end Cert.Proof.OnWord

end
-- ==== Proof.OnMask.lean ====
/- The selection predicate at an index: what a selected element's row has. -/
module

public import proofs.«01_k».proof.Proof.OnWord
public import proofs.«01_k».proof.Proof.RNoise
public import proofs.«01_k».proof.Proof.Softmax
public import Idealize.ShloMosaic.Lib.IndicatorCount

@[expose] public section

set_option maxRecDepth 16384

noncomputable section

namespace Cert.Proof.OnMask

open Idealize.ShloMosaic Cert.On_selected Cert.Proof.Threefry

variable [Cert.On_selected.Facts]

/-- The place of row `n` of batch `p` among all the rows. -/
abbrev place (p : Fin 32) (n : Fin 8192) : Fin 262144 := ⟨p.val * 8192 + n.val, by omega⟩

/-- The sum of two extended reals, whatever type they are read at. -/
abbrev plus (x y : EReal) : EReal := x + y

/-- Exactly two elements of row `a` reach the second greatest. -/
def Two (y : FVec Ideal S262144x64 .f32) (a : Fin 262144) : Prop :=
  (Finset.univ.filter fun j : Fin 64 => (y (ix2 a (TopK.place y a 1)) : EReal) ≤ y (ix2 a j)).card = 2

/-- What the two masks say, of the rows marked finite and the sums of the softmaxes. -/
structure Says (o : IVec S32x8192x64 1 × IVec S262144x64 1) (v : IVec S32x8192 1) (Y : Fin 262144 → Row.R) : Prop where
  soft : ∀ (p : Fin 32) (n : Fin 8192) (b : Fin 64), o.2 (ix2 (place p n) b) = v (ix2 p n)
  hard : ∃ y : FVec Ideal S262144x64 .f32, (∀ a b, y (ix2 a b) = Y a b) ∧
    ∀ (p : Fin 32) (n : Fin 8192) (b : Fin 64), o.1 (ix3 p n b) = 1#1 → v (ix2 p n) = 1#1 ∧ Two y (place p n)

theorem Says.congr {o : IVec S32x8192x64 1 × IVec S262144x64 1} {v : IVec S32x8192 1} {Y Z : Fin 262144 → Row.R} (h : Says o v Y)
    (e : ∀ a b, Y a b = Z a b) : Says o v Z :=
  ⟨h.soft, h.hard.imp fun _ hy => ⟨fun a b => (hy.1 a b).trans (e a b), hy.2⟩⟩

/-! ## Comparisons, and words of one bit -/

theorem bit (q : Prop) [Decidable q] : BitVec.ofBool (decide q) = 1#1 ↔ q := by
  by_cases e : q
  · rw [decide_eq_true e]; exact ⟨fun _ => e, fun _ => rfl⟩
  · rw [decide_eq_false e]; exact ⟨fun h => absurd h (by decide), fun h => absurd h e⟩

theorem oge_iff (u v : Ideal .f32) : FloatOps.cmpf .oge u v = 1#1 ↔ (v : EReal) ≤ u := bit _

theorem ogt_iff (u v : Ideal .f32) : FloatOps.cmpf .ogt u v = 1#1 ↔ (v : EReal) < u := bit _

theorem olt_iff (u v : Ideal .f32) : FloatOps.cmpf .olt u v = 1#1 ↔ (u : EReal) < v := bit _

theorem and_one : ∀ a b : BitVec 1, IntOp.andi a b = 1#1 → a = 1#1 ∧ b = 1#1 := by decide

theorem eq_word (a b : BitVec 32) (h : IntOp.cmpi .eq a b = 1#1) : a = b := by
  have : BitVec.ofBool (a == b) = 1#1 := h
  by_contra hn
  rw [beq_false_of_ne hn] at this
  exact absurd this (by decide)

theorem top_eq : FloatOps.ofBits (F := Ideal) .f32 0x7F800000#32 = (⊤ : EReal) := by
  show Ideal.ieee 8 23 0x7F800000#32 = _
  unfold Ideal.ieee
  dsimp only
  rw [if_pos (by decide), if_pos (by decide), if_neg (by decide)]

/-! ## Layout -/

theorem hard_at (v w : IVec S32x8192 1) (p : Fin 32) (n : Fin 8192) (b : Fin 64) :
    (fn_part5 (F := Ideal) v w).1 (ix3 p n b) = w (ix2 p n) := by
  unfold fn_part5
  pointwise

theorem soft_at (v w : IVec S32x8192 1) (p : Fin 32) (n : Fin 8192) (b : Fin 64) :
    (fn_part5 (F := Ideal) v w).2 (ix2 (place p n) b) = v (ix2 p n) := by
  unfold fn_part5
  pointwise

theorem rows_at (w : IVec S262144 1) (h : S262144.ShapeCasts S32x8192) (p : Fin 32) (n : Fin 8192) :
    shapeCast S32x8192 w h (ix2 p n) = w (ix1 (place p n)) := by
  pointwise

theorem second_at (t : FVec Ideal S262144x2 .f32) (h : S262144x2.Slices ![0, 1] S262144x1) (hb : S262144x1.BroadcastsInDim S262144x64 ![0, 1])
    (a : Fin 262144) (b : Fin 64) : broadcastInDim S262144x64 ![0, 1] hb (extractStridedSlice S262144x1 ![0, 1] t h) (ix2 a b) = t (ix2 a 1) := by
  pointwise

theorem flat_at (x : FVec Ideal S32x8192x64 .f32) (h : S32x8192x64.ShapeCasts S262144x64) (r : Fin 262144) (k : Fin 64) :
    shapeCast S262144x64 x h (ix2 r k) = x (ix3 (⟨r.val / 8192, by omega⟩ : Fin 32) (⟨r.val % 8192, by omega⟩ : Fin 8192) k) := by
  pointwise

/-- The ones of a mask, counted along a row. -/
theorem count_at (M : IVec S262144x64 1) (hw : 1 < 32) (h : S262144x64.ReducesTo [1] S262144) (hu : 0 < S_.numel) (a : Fin 262144) :
    Host.reduce IntOp.addi (extui 32 M hw) (constantI S_ 32 0#32) h hu (ix1 a)
      = BitVec.ofNat 32 (Finset.univ.filter fun k : Fin 64 => M (ix2 a k) = 1#1).card := by
  rw [Host.reduce_eq_fold, Shape.ReducesTo.fold_fiber_r2_a1]
  exact IndicatorCount.fold_addi_setWidth_eq_card (w := 32) (fun k : Fin 64 => M (ix2 a k)) Finset.univ

theorem count_two (M : IVec S262144x64 1) (hw : 1 < 32) (h : S262144x64.ReducesTo [1] S262144) (hu : 0 < S_.numel) (hb : S_.BroadcastsInDim S262144 ![])
    (a : Fin 262144) (e : cmpi .eq (Host.reduce IntOp.addi (extui 32 M hw) (constantI S_ 32 0#32) h hu)
      (broadcastInDim S262144 ![] hb (constantI S_ 32 2#32)) (ix1 a) = 1#1) :
    (Finset.univ.filter fun k : Fin 64 => M (ix2 a k) = 1#1).card = 2 := by
  have e2 : Host.reduce IntOp.addi (extui 32 M hw) (constantI S_ 32 0#32) h hu (ix1 a) = 2#32 := eq_word _ _ e
  rw [count_at] at e2
  have hle : (Finset.univ.filter fun k : Fin 64 => M (ix2 a k) = 1#1).card ≤ 64 := (Finset.card_filter_le _ _).trans (by simp)
  have := congrArg BitVec.toNat e2
  rw [BitVec.toNat_ofNat, Nat.mod_eq_of_lt (by omega)] at this
  exact this

theorem two_of (y : FVec Ideal S262144x64 .f32) (hs : S262144x64.Slices (fun _ => 0) S262144x2) (h : S262144x2.Slices ![0, 1] S262144x1)
    (hb : S262144x1.BroadcastsInDim S262144x64 ![0, 1]) (a : Fin 262144)
    (e : (Finset.univ.filter fun k : Fin 64 => cmpf .oge y (broadcastInDim S262144x64 ![0, 1] hb
      (extractStridedSlice S262144x1 ![0, 1] (Host.topK S262144x2 1 (FloatOps.cmpfTotal .gt) y hs).1 h)) (ix2 a k) = 1#1).card = 2) : Two y a := by
  refine Eq.trans (congrArg Finset.card (Finset.filter_congr fun k _ => ?_)) e
  refine (Iff.trans (oge_iff _ _) (Iff.of_eq (congrArg (fun z : EReal => z ≤ y (ix2 a k)) ?_))).symm
  exact (second_at _ h hb a k).trans (TopK.value_at y hs a 1)

/-! ## The parts of the predicate, last first -/

/-- The greatest elements of the rows, as they are taken from. -/
abbrev tops (z : FVec Ideal S262144 .f32) : FVec Ideal S262144 .f32 :=
  maximumf (broadcastInDim S262144 ![] Facts.bcast_S_S262144 (constant S_ .f32 0xFF800000#32)) z

/-- The exponentials of the rows of `x`, and their softmax. -/
abbrev weights (x : FVec Ideal S262144x64 .f32) (z : FVec Ideal S262144 .f32) : FVec Ideal S262144x64 .f32 :=
  Host.exp (subf x (broadcastInDim S262144x64 ![0, 1] Facts.bcast_S262144x1_S262144x64_0_1
    (broadcastInDim S262144x1 ![0] Facts.bcast_S262144_S262144x1_0 (tops z))))

abbrev softs (x : FVec Ideal S262144x64 .f32) (z : FVec Ideal S262144 .f32) : FVec Ideal S262144x64 .f32 :=
  Host.divf (weights x z) (broadcastInDim S262144x64 ![0, 1] Facts.bcast_S262144x1_S262144x64_0_1
    (broadcastInDim S262144x1 ![0] Facts.bcast_S262144_S262144x1_0
      (Host.reduceAdd (weights x z) (constant S_ .f32 0#32) Facts.reducesTo_S262144x64_S262144_d1 Facts.h_S_)))

theorem softs_at (x : FVec Ideal S262144x64 .f32) (z : FVec Ideal S262144 .f32) (hz : ∀ a, z (ix1 a) = Row.peak fun k => x (ix2 a k))
    (a : Fin 262144) (b : Fin 64) : softs x z (ix2 a b) = Row.soft (fun k => x (ix2 a k)) b :=
  Softmax.soft_of _ _ (fun k => x (ix2 a k)) _ _ a
    (fun k => Softmax.weight_of x _ _ _ z hz a k) (Softmax.sum_at _ _ _ (constant S_ .f32 0#32) (fun _ => Softmax.zero_eq) a) b

theorem part4 (v : IVec S32x8192 1) (u x : FVec Ideal S262144x64 .f32) (z : FVec Ideal S262144 .f32)
    (hz : ∀ a, z (ix1 a) = Row.peak fun k => x (ix2 a k)) :
    Says (fn_part4 (F := Ideal) v u x z (broadcastInDim S262144 ![] Facts.bcast_S_S262144 (constant S_ .f32 0xFF800000#32))) v
      (fun a b => plus (u (ix2 a b)) (Row.soft (fun k => x (ix2 a k)) b)) := by
  unfold fn_part4
  refine ⟨fun p n b => soft_at _ _ p n b, addf u (softs x z), fun a b => congrArg (plus (u (ix2 a b))) (softs_at x z hz a b), fun p n b h => ?_⟩
  obtain ⟨h1, h2⟩ := and_one _ _ ((hard_at _ _ p n b).symm.trans h)
  exact ⟨h1, two_of _ _ _ _ _ (count_two _ _ _ _ _ _ ((rows_at _ _ p n).symm.trans h2))⟩

theorem next_at (w u : FVec Ideal S262144x64 .f32) (hb : S_.BroadcastsInDim S262144x64 ![]) (a : Fin 262144) (b : Fin 64) :
    Host.divf (addf w (Host.log (maximumf (subf (broadcastInDim S262144x64 ![] hb (constant S_ .f32 0x3F800000#32)) u)
      (broadcastInDim S262144x64 ![] hb (constant S_ .f32 0x00800000#32))))) (broadcastInDim S262144x64 ![] hb (constant S_ .f32 0x3DCCCCCD#32)) (ix2 a b)
      = Ideal.div (plus (w (ix2 a b)) (Row.left tiny (fun k => u (ix2 a k)) b)) Row.temp := by
  have e : Host.divf (addf w (Host.log (maximumf (subf (broadcastInDim S262144x64 ![] hb (constant S_ .f32 0x3F800000#32)) u)
      (broadcastInDim S262144x64 ![] hb (constant S_ .f32 0x00800000#32))))) (broadcastInDim S262144x64 ![] hb (constant S_ .f32 0x3DCCCCCD#32)) (ix2 a b)
      = Ideal.div (plus (w (ix2 a b)) (Ideal.log (max ((FloatOps.ofBits (F := Ideal) .f32 0x3F800000#32 : EReal) - u (ix2 a b)) tiny)))
        (FloatOps.ofBits (F := Ideal) .f32 0x3DCCCCCD#32) := rfl
  rw [e, Softmax.one_eq, Softmax.temp_eq]
  rfl

theorem part3 (v : IVec S32x8192 1) (w x : FVec Ideal S262144x64 .f32) (z : FVec Ideal S262144 .f32)
    (hz : ∀ a, z (ix1 a) = Row.peak fun k => x (ix2 a k)) :
    Says (fn_part3 (F := Ideal) v w x (tops z)) v
      (fun a b => plus (Row.soft (fun k => x (ix2 a k)) b)
        (Row.soft (fun k => Ideal.div (plus (w (ix2 a k)) (Row.left tiny (Row.soft fun k => x (ix2 a k)) k)) Row.temp) b)) := by
  unfold fn_part3
  refine (part4 v _ _ _ (fun a => Softmax.max_at _ _ _ (constant S_ .f32 0xFF800000#32) (fun _ => Softmax.bot_eq) a)).congr fun a b => ?_
  have e := softs_at x z hz a
  refine congrArg₂ plus (e b) (congrArg (fun y => Row.soft y b) (funext fun k => (next_at w (softs x z) _ a k).trans ?_))
  exact congrArg (fun y => Ideal.div (plus (w (ix2 a k)) (Row.left tiny y k)) Row.temp) (funext e)

/-- The rows with their noise added, of the factors of the uniform numbers. -/
abbrev noisy (s d e : FVec Ideal S262144x64 .f32) : FVec Ideal S262144x64 .f32 :=
  subf s (Host.log (Host.negf (Host.log (maximumf (broadcastInDim S262144x64 ![] Facts.bcast_S_S262144x64 (constant S_ .f32 0x00800000#32))
    (addf (mulf (mulf d e) (broadcastInDim S262144x64 ![] Facts.bcast_S_S262144x64 (subf (constant S_ .f32 0x3F800000#32) (constant S_ .f32 0x00800000#32))))
      (broadcastInDim S262144x64 ![] Facts.bcast_S_S262144x64 (constant S_ .f32 0x00800000#32)))))))

theorem noisy_at (s d e : FVec Ideal S262144x64 .f32) (a : Fin 262144) (b : Fin 64) :
    noisy s d e (ix2 a b) = plus (s (ix2 a b)) (gumbel (lift (FloatOps.mulf (d (ix2 a b)) (e (ix2 a b))))) :=
  sub_eq_add_neg (s (ix2 a b) : EReal) _

theorem scaled_at (w : FVec Ideal S262144x64 .f32) (hb : S_.BroadcastsInDim S262144x64 ![]) (a : Fin 262144) (b : Fin 64) :
    Host.divf w (broadcastInDim S262144x64 ![] hb (constant S_ .f32 0x3DCCCCCD#32)) (ix2 a b) = Ideal.div (w (ix2 a b)) Row.temp :=
  congrArg (Ideal.div (w (ix2 a b))) Softmax.temp_eq

theorem part2 (v : IVec S32x8192 1) (s d e : FVec Ideal S262144x64 .f32) :
    Says (fn_part2 (F := Ideal) v s d e) v
      (fun a b => Row.khot tiny (fun k => plus (s (ix2 a k)) (gumbel (lift (FloatOps.mulf (d (ix2 a k)) (e (ix2 a k)))))) b) := by
  unfold fn_part2
  refine (part3 v _ _ _ (fun a => Softmax.max_at _ _ _ (constant S_ .f32 0xFF800000#32) (fun _ => Softmax.bot_eq) a)).congr fun a b => ?_
  have h1 := fun k => noisy_at s d e a k
  have h2 : (fun k => Host.divf (noisy s d e) (broadcastInDim S262144x64 ![] Facts.bcast_S_S262144x64 (constant S_ .f32 0x3DCCCCCD#32)) (ix2 a k) : Row.R)
      = fun k => Ideal.div (plus (s (ix2 a k)) (gumbel (lift (FloatOps.mulf (d (ix2 a k)) (e (ix2 a k)))))) Row.temp :=
    funext fun k => (scaled_at (noisy s d e) Facts.bcast_S_S262144x64 a k).trans (congrArg (fun y => Ideal.div y Row.temp) (h1 k))
  refine congrArg₂ plus (congrArg (fun y => Row.soft y b) h2) (congrArg (fun y => Row.soft y b) (funext fun k => ?_))
  exact congrArg₂ (fun y t => Ideal.div (plus y (Row.left tiny (Row.soft t) k)) Row.temp) (h1 k) h2

/-- The row-major places of the elements, as words of 64 bits, and their two halves. -/
abbrev places : IVec S262144x64 64 :=
  addi (muli (broadcastInDim S262144x64 ![] Facts.bcast_S_S262144x64 (constantI S_ 64 64#64)) (iotaInDim S262144x64 64 0))
    (muli (broadcastInDim S262144x64 ![] Facts.bcast_S_S262144x64 (constantI S_ 64 1#64)) (iotaInDim S262144x64 64 1))

abbrev lows : IVec S262144x64 32 := trunci 32 places Facts.natLt_32_64

abbrev highs : IVec S262144x64 32 :=
  trunci 32 (Host.shrui places (broadcastInDim S262144x64 ![] Facts.bcast_S_S262144x64 (constantI S_ 64 32#64))) Facts.natLt_32_64

theorem places_at (a : Fin 262144) (b : Fin 64) : places (ix2 a b) = BitVec.ofNat 64 (a.val * 64 + b.val) := RNoise.place64 a b

theorem lows_at (a : Fin 262144) (b : Fin 64) : lows (ix2 a b) = BitVec.ofNat 32 (a.val * 64 + b.val) :=
  (congrArg (BitVec.setWidth 32) (places_at a b)).trans (RNoise.place_low _)

theorem highs_at (a : Fin 262144) (b : Fin 64) : highs (ix2 a b) = 0#32 :=
  (congrArg (fun z => BitVec.setWidth 32 (IntOp.shrui .host z 32#64)) (places_at a b)).trans (RNoise.place_high _ (by omega))

theorem word_at (a : Fin 262144) (b : Fin 64) :
    xori (fn_threefry2x32 (F := Ideal) (fun _ => 0#32) (fun _ => 1#32) highs lows).1
      (fn_threefry2x32 (F := Ideal) (fun _ => 0#32) (fun _ => 1#32) highs lows).2 (ix2 a b) = word (BitVec.ofNat 32 (a.val * 64 + b.val)) := by
  have e := OnWord.words 0#32 1#32 (ix2 a b) highs lows
  rw [highs_at, lows_at] at e
  exact congrArg (fun s : W2 => IntOp.xori s.1 s.2) e

theorem part1 (v : IVec S32x8192 1) (s : FVec Ideal S262144x64 .f32) :
    Says (fn_part1 (F := Ideal) v s (fun _ => 0#32) (fun _ => 1#32)) v
      (fun a b => Row.khot tiny (fun k => plus (s (ix2 a k)) (noise (word (BitVec.ofNat 32 (a.val * 64 + k.val))))) b) := by
  unfold fn_part1
  refine (part2 v s _ _).congr fun a b => ?_
  refine congrArg (fun y => Row.khot tiny y b) (funext fun k => congrArg (fun t => plus (s (ix2 a k)) (gumbel (lift t))) ?_)
  rw [fraction_eq]
  exact congrArg draw (word_at a k)

/-- The elements of `g` strictly between the infinities. -/
abbrev between (g : FVec Ideal S32x8192 .f32) : IVec S32x8192 1 :=
  andi (cmpf .ogt g (broadcastInDim S32x8192 ![] Facts.bcast_S_S32x8192 (constant S_ .f32 0xFF800000#32)))
    (cmpf .olt g (broadcastInDim S32x8192 ![] Facts.bcast_S_S32x8192 (constant S_ .f32 0x7F800000#32)))

/-- The rows whose greatest element is finite, as the predicate marks them. -/
abbrev finite (x : FVec Ideal S32x8192x64 .f32) : IVec S32x8192 1 :=
  between (Host.reduce FloatOps.maximumf x (constant S_ .f32 0xFF800000#32) Facts.reducesTo_S32x8192x64_S32x8192_d2 Facts.h_S_)

theorem between_of (g : FVec Ideal S32x8192 .f32) (i : S32x8192.Idx) (z : EReal) (e : g i = z) (h : between g i = 1#1) :
    z ≠ ⊤ ∧ z ≠ ⊥ := by
  obtain ⟨h1, h2⟩ := and_one _ _ h
  have l1 : (FloatOps.ofBits (F := Ideal) .f32 0xFF800000#32 : EReal) < g i := (ogt_iff _ _).1 h1
  have l2 : (g i : EReal) < FloatOps.ofBits (F := Ideal) .f32 0x7F800000#32 := (olt_iff _ _).1 h2
  have b1 : (FloatOps.ofBits (F := Ideal) .f32 0xFF800000#32 : EReal) = ⊥ := Softmax.bot_eq
  rw [b1] at l1
  rw [top_eq] at l2
  rw [← e]
  exact ⟨l2.ne, l1.ne'⟩

theorem peak_at (x : FVec Ideal S32x8192x64 .f32) (h : S32x8192x64.ReducesTo [2] S32x8192) (hu : 0 < S_.numel) (c : FVec Ideal S_ .f32)
    (hc : ∀ i, c i = (⊥ : EReal)) (p : Fin 32) (n : Fin 8192) :
    Host.reduce FloatOps.maximumf x c h hu (ix2 p n) = Row.peak fun k => x (ix3 p n k) := by
  rw [Host.reduce_eq_fold, Shape.ReducesTo.fold_fiber_r3_a2, hc]
  rfl

theorem finite_of (x : FVec Ideal S32x8192x64 .f32) (p : Fin 32) (n : Fin 8192) (h : finite x (ix2 p n) = 1#1) :
    Row.Fin' fun k => (x (ix3 p n k) : EReal) :=
  have e := between_of _ (ix2 p n) _ (peak_at x Facts.reducesTo_S32x8192x64_S32x8192_d2 Facts.h_S_ (constant S_ .f32 0xFF800000#32)
    (fun _ => Softmax.bot_eq) p n) h
  Row.Fin'.of_peak e.1 e.2

/-- The two words of the key. -/
theorem key0 (hc : Shape.Concatenates [S1, S1] S2 0) (hb : S_.BroadcastsInDim S1 ![]) (hs : S2.Slices ![0] S1) (hr : S1.ShapeCasts S_) (a b : BitVec 32) :
    shapeCast S_ (extractStridedSlice S1 ![0] (concatenate S2 0 [⟨S1, broadcastInDim S1 ![] hb (fun _ : S_.Idx => a)⟩,
      ⟨S1, broadcastInDim S1 ![] hb (fun _ : S_.Idx => b)⟩] hc) hs) hr = fun _ => a := by
  funext i
  pointwise

theorem key1 (hc : Shape.Concatenates [S1, S1] S2 0) (hb : S_.BroadcastsInDim S1 ![]) (hs : S2.Slices ![1] S1) (hr : S1.ShapeCasts S_) (a b : BitVec 32) :
    shapeCast S_ (extractStridedSlice S1 ![1] (concatenate S2 0 [⟨S1, broadcastInDim S1 ![] hb (fun _ : S_.Idx => a)⟩,
      ⟨S1, broadcastInDim S1 ![] hb (fun _ : S_.Idx => b)⟩] hc) hs) hr = fun _ => b := by
  funext i
  pointwise

theorem part1_of (v : IVec S32x8192 1) (s : FVec Ideal S262144x64 .f32) (k l : IVec S_ 32) (hk : k = fun _ => 0#32) (hl : l = fun _ => 1#32) :
    Says (fn_part1 (F := Ideal) v s k l) v
      (fun a b => Row.khot tiny (fun k => plus (s (ix2 a k)) (noise (word (BitVec.ofNat 32 (a.val * 64 + k.val))))) b) := by
  subst hk hl
  exact part1 v s

theorem zero_word : (fun _ : S_.Idx => IntOp.shrui .host (1#32) (32#32)) = fun _ => 0#32 := funext fun _ => by decide

theorem one_word : (fun _ : S_.Idx => IntOp.andi (1#32) (4294967295#32)) = fun _ => 1#32 := funext fun _ => by decide

/-- The predicate: a selected element's row is finite, and for the mask also without a tie for second place. -/
theorem reading (x : FVec Ideal S32x8192x64 .f32) :
    Says (fn (F := Ideal) x) (finite x) (fun a b => Row.khot tiny (fun k =>
      plus (x (ix3 (⟨a.val / 8192, by omega⟩ : Fin 32) (⟨a.val % 8192, by omega⟩ : Fin 8192) k)) (noise (word (BitVec.ofNat 32 (a.val * 64 + k.val))))) b) := by
  unfold fn
  refine (part1_of (finite x) (shapeCast S262144x64 x Facts.shapeCasts_S32x8192x64_S262144x64) _ _ ?_ ?_).congr fun a b =>
    congrArg (fun y => Row.khot tiny y b) (funext fun k =>
      congrArg (fun z => plus z (noise (word (BitVec.ofNat 32 (a.val * 64 + k.val))))) (flat_at x Facts.shapeCasts_S32x8192x64_S262144x64 a k))
  · exact (key0 _ _ _ _ (IntOp.shrui .host 1#32 32#32) (IntOp.andi 1#32 4294967295#32)).trans zero_word
  · exact (key1 _ _ _ _ (IntOp.shrui .host 1#32 32#32) (IntOp.andi 1#32 4294967295#32)).trans one_word

end Cert.Proof.OnMask

end
-- ==== Proof.RRun.lean ====
/- The reference's run: its two results. -/
module

public import proofs.«01_k».proof.Proof.Frames
public import proofs.«01_k».proof.Proof.RMask
public import proofs.«01_k».proof.Proof.RSoft
public import proofs.«01_k».proof.Proof.OnMask

@[expose] public section

set_option maxRecDepth 16384

noncomputable section

namespace Cert.Proof.RRun

open Cert.ReferenceIdeal Cert.ReferenceIdeal.Gen Idealize.ShloMosaic Idealize.ShloMosaic.TcCoe Idealize.ShloMosaic.StableHlo
open Idealize.SL.Sem Cert.Proof.Threefry

/-- A row of scores with its noise added. -/
def row (x : FVec Ideal S32x8192x64 .f32) (r : Fin 262144) : Row.R := fun k =>
  (x (ix3 (⟨r.val / 8192, by omega⟩ : Fin 32) (⟨r.val % 8192, by omega⟩ : Fin 8192) k) : EReal)
    + noise (word (BitVec.ofNat 32 (r.val * 64 + k.val)))

theorem flat_at (x : FVec Ideal S32x8192x64 .f32) (h : S32x8192x64.ShapeCasts S262144x64) (r : Fin 262144) (k : Fin 64) :
    shapeCast S262144x64 x h (ix2 r k) = x (ix3 (⟨r.val / 8192, by omega⟩ : Fin 32) (⟨r.val % 8192, by omega⟩ : Fin 8192) k) := by
  pointwise

/-- The program in its three stretches. -/
theorem whole : Ref.ops (F := Ideal) = (Ref.ops (F := Ideal)).take 278 ++ (RSoft.stretch ++ RMask.stretch) := by rfl

variable (V : Valuation τ sig (Elt Ideal))

/-- What the buffers hold when the noise is drawn, and when the softmaxes are summed. -/
abbrev drawn : Valuation τ sig (Elt Ideal) := after ((Ref.ops (F := Ideal)).take 278) V
abbrev summed : Valuation τ sig (Elt Ideal) := after RSoft.stretch (drawn V)

theorem ends (b : DevRef τ sig) : after (Ref.ops (F := Ideal)) V b = after RMask.stretch (summed V) b := by
  rw [whole, after_append, after_append]

theorem summed_at (a : Fin 262144) (b : Fin 64) : summed V ↑main_v51 (ix2 a b) = Row.khot tiny (row (V ↑main_arg0) a) b :=
  (RSoft.khot_at a b).trans (congrArg (fun y => Row.khot tiny y b) (funext fun k =>
    congrArg₂ RSoft.plus ((congrFun RNoise.in_at (ix2 a k)).trans (flat_at _ _ a k)) (RNoise.noise_at a k)))

theorem soft_at (a : Fin 262144) (b : Fin 64) :
    after (Ref.ops (F := Ideal)) V ↑main_v51 (ix2 a b) = Row.khot tiny (row (V ↑main_arg0) a) b :=
  (congrFun ((ends V ↑main_v51).trans RMask.keeps) (ix2 a b)).trans (summed_at V a b)

theorem ix2_eq (y : S262144x64.Idx) : y = ix2 (y 0) (y 1) := by
  funext d
  fin_cases d <;> rfl

/-- Two arrays whose elements are those of one function of the coordinates. -/
theorem ext_rows {y z : FVec Ideal S262144x64 .f32} {Y : Fin 262144 → Row.R} (hy : ∀ a b, y (ix2 a b) = Y a b) (hz : ∀ a b, z (ix2 a b) = Y a b) :
    y = z := funext fun i => by
  rw [ix2_eq i]
  exact (hy _ _).trans (hz _ _).symm

theorem hard_at (y : FVec Ideal S262144x64 .f32) (hy : ∀ a b, y (ix2 a b) = Row.khot tiny (row (V ↑main_arg0) a) b)
    (p : Fin 32) (n : Fin 8192) (b : Fin 64) (hr : ∃ r : ℝ, Row.khot tiny (row (V ↑main_arg0) (OnMask.place p n)) b = (r : EReal)) :
    after (Ref.ops (F := Ideal)) V ↑main_v73 (ix3 p n b)
      = Row.pair (TopK.place y (OnMask.place p n) 0) (TopK.place y (OnMask.place p n) 1) b := by
  have e : summed V ↑main_v51 = y := ext_rows (summed_at V) hy
  refine (congrFun (ends V ↑main_v73) (ix3 p n b)).trans ((RMask.mask_at p n b ?_).trans ?_)
  · exact hr.imp fun r h => (summed_at V _ _).trans h
  · rw [e]

end Cert.Proof.RRun

end
-- ==== Proof.Value.lean ====
/- The value claim: on the selected elements the kernel's results are the reference's. -/
module

public import proofs.«01_k».proof.Proof.KRun
public import proofs.«01_k».proof.Proof.RRun
public import proofs.«01_k».proof.Proof.Gen.On_selected

@[expose] public section

set_option maxRecDepth 16384

noncomputable section

namespace Cert.Proof.Value

open Idealize.ShloMosaic Idealize.ShloMosaic.TcCoe Idealize.ShloMosaic.StableHlo Idealize.SL.Sem Cert.Proof.Threefry Cert.Proof.RRun
open Cert.On_selected (S32x8192x64 S262144x64 S32x8192)

variable [Cert.On_selected.Facts] (x : FVec Ideal S32x8192x64 .f32)

/-- A row marked finite is one whose scores stay finite with the noise added. -/
theorem fin_row (p : Fin 32) (n : Fin 8192) (h : OnMask.finite x (ix2 p n) = 1#1) : Row.Fin' (row x (OnMask.place p n)) := by
  have e := (OnMask.finite_of x p n h).add fun k => noise_real (word (BitVec.ofNat 32 ((OnMask.place p n).val * 64 + k.val)))
  have hp : (⟨(OnMask.place p n).val / 8192, by omega⟩ : Fin 32) = p := Fin.ext (by show (p.val * 8192 + n.val) / 8192 = p.val; omega)
  have hn : (⟨(OnMask.place p n).val % 8192, by omega⟩ : Fin 8192) = n := Fin.ext (by show (p.val * 8192 + n.val) % 8192 = n.val; omega)
  unfold row
  rw [hp, hn]
  exact e

theorem tiny_pos : (0 : ℝ) < (2 : ℝ) ^ (-126 : ℤ) := by positivity

theorem khot_row (p : Fin 32) (n : Fin 8192) (h : OnMask.finite x (ix2 p n) = 1#1) :
    Row.khotK tiny (row x (OnMask.place p n)) = Row.khot tiny (row x (OnMask.place p n)) := by
  rw [tiny_eq]
  exact Row.khot_eq tiny_pos (fin_row x p n h)

theorem real_row (p : Fin 32) (n : Fin 8192) (h : OnMask.finite x (ix2 p n) = 1#1) (b : Fin 64) :
    ∃ r : ℝ, Row.khot tiny (row x (OnMask.place p n)) b = r := by
  rw [tiny_eq]
  exact Row.khot_real tiny_pos (fin_row x p n h) b

/-- A row of the reference's soft masks without a tie for second place has the kernel's hard mask at its two greatest. -/
theorem pair_row (y : FVec Ideal S262144x64 .f32) (hy : ∀ a b, y (ix2 a b) = Row.khot tiny (row x a) b) (p : Fin 32) (n : Fin 8192)
    (h : OnMask.finite x (ix2 p n) = 1#1) (h2 : OnMask.Two y (OnMask.place p n)) :
    Row.hard (Row.khotK tiny (row x (OnMask.place p n)))
      = Row.pair (TopK.place y (OnMask.place p n) 0) (TopK.place y (OnMask.place p n) 1) := by
  have e : (fun b => y (ix2 (OnMask.place p n) b) : Row.R) = Row.khot tiny (row x (OnMask.place p n)) := funext fun b => hy _ b
  rw [khot_row x p n h, ← e]
  refine Row.hard_eq (fun i => ?_) (TopK.place_ne _ _) (TopK.place_le _ _) h2
  obtain ⟨r, hr⟩ := real_row x p n h i
  rw [hy, hr]
  exact EReal.coe_ne_bot r

theorem split3 (i : S32x8192x64.Idx) : i = ix3 (i 0) (i 1) (i 2) := by
  funext d
  fin_cases d <;> rfl

theorem split2 (i : S262144x64.Idx) : i = ix2 (i 0) (i 1) := by
  funext d
  fin_cases d <;> rfl

theorem row_place (a : Fin 262144) : a = OnMask.place ⟨a.val / 8192, by omega⟩ ⟨a.val % 8192, by omega⟩ :=
  Fin.ext (by show a.val = a.val / 8192 * 8192 + a.val % 8192; omega)

/-- The hard masks at a selected element, `w` the reference's. -/
theorem hard_selected (w : FVec Ideal S32x8192x64 .f32)
    (hw : ∀ y : FVec Ideal S262144x64 .f32, (∀ a b, y (ix2 a b) = Row.khot tiny (row x a) b) → ∀ (p : Fin 32) (n : Fin 8192) (b : Fin 64),
      (∃ r : ℝ, Row.khot tiny (row x (OnMask.place p n)) b = (r : EReal)) →
      w (ix3 p n b) = Row.pair (TopK.place y (OnMask.place p n) 0) (TopK.place y (OnMask.place p n) 1) b)
    (i : S32x8192x64.Idx) (hi : (Cert.On_selected.fn (F := Ideal) x).1 i = 1#1) : w i = KRun.hardOut x i := by
  obtain ⟨y, hy, hs⟩ := (OnMask.reading x).hard
  have hj : (Cert.On_selected.fn (F := Ideal) x).1 (ix3 (i 0) (i 1) (i 2)) = 1#1 := (congrArg _ (split3 i)).symm.trans hi
  obtain ⟨hf, h2⟩ := hs (i 0) (i 1) (i 2) hj
  refine (congrArg w (split3 i)).trans ((hw y hy (i 0) (i 1) (i 2) (real_row x _ _ hf _)).trans ?_)
  exact (congrFun (pair_row x y hy (i 0) (i 1) hf h2) (i 2)).symm

/-- The soft masks at a selected element, `w` the reference's. -/
theorem soft_selected (w : FVec Ideal S262144x64 .f32) (hw : ∀ a b, w (ix2 a b) = Row.khot tiny (row x a) b)
    (i : S262144x64.Idx) (hi : (Cert.On_selected.fn (F := Ideal) x).2 i = 1#1) : w i = KRun.softOut x i := by
  have key : ∀ (a : Fin 262144) (b : Fin 64), (Cert.On_selected.fn (F := Ideal) x).2 (ix2 a b) = 1#1 →
      Row.khot tiny (row x a) b = Row.khotK tiny (row x a) b := fun a b h => by
    rw [row_place a] at h ⊢
    rw [(OnMask.reading x).soft] at h
    rw [khot_row x _ _ h]
  have hj : (Cert.On_selected.fn (F := Ideal) x).2 (ix2 (i 0) (i 1)) = 1#1 := (congrArg _ (split2 i)).symm.trans hi
  exact (congrArg w (split2 i)).trans ((hw (i 0) (i 1)).trans (key (i 0) (i 1) hj))

/-- On the selected elements the two programs' results are equal. -/
theorem algebraic : Cert.algebraic_KernelIdeal_ReferenceIdeal_on_selected := by
  intro m g m' g' _ hagree
  refine ⟨fun c => KRun.hardOut (KValue.scores m c), fun c => KRun.softOut (KValue.scores m c), ?_, ?_⟩
  · exact θ_run_mono (KRun.run m g) fun r h c => ⟨fun i _ => congrFun (h c).1 i, fun i _ => congrFun (h c).2.1 i, (h c).2.2⟩
  · refine θ_run_mono (Ref.run (F := Ideal) m' g') fun r h c => ⟨fun i hi => ?_, fun i hi => ?_, (h c _).trans (Ref.keeps _)⟩
    · rw [← hagree c] at hi
      refine (congrFun (h c Cert.ReferenceIdeal.main_v73) i).trans ?_
      refine (hard_selected _ _ (RRun.hard_at (launchContents m' c)) i hi).trans ?_
      exact congrFun (congrArg KRun.hardOut (hagree c)) i
    · rw [← hagree c] at hi
      refine (congrFun (h c Cert.ReferenceIdeal.main_v51) i).trans ?_
      refine (soft_selected _ _ (RRun.soft_at (launchContents m' c)) i hi).trans ?_
      exact congrFun (congrArg KRun.softOut (hagree c)) i

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_selected
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.On_selected.Gen.facts,
  frame_kernel, frame_ideal, frame_reference, named, Value.algebraic⟩

end Cert.Proof

end
